-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases_and_weights [hPre_zero_biases_and_weights : Cert.Pre_zero_biases_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_zero_biases_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_zero_biases_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_zero_biases_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases_and_weights [hPre_zero_biases_and_weights : Cert.Pre_zero_biases_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_zero_biases_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_zero_biases_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_zero_biases_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_zero_biases_and_weights [hKernelIdeal : Cert.KernelIdeal.Facts] [hPre_zero_biases_and_weights : Cert.Pre_zero_biases_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases_and_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_zero_biases_and_weights [hReferenceIdeal : Cert.ReferenceIdeal.Facts] [hPre_zero_biases_and_weights : Cert.Pre_zero_biases_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_zero_biases_and_weights [hKernelIdeal : Cert.KernelIdeal.Facts] [hReferenceIdeal : Cert.ReferenceIdeal.Facts] [hPre_zero_biases_and_weights : Cert.Pre_zero_biases_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_zero_biases_and_weights : Cert.Pre_zero_biases_and_weights.Facts),
    quiescent_Kernel (hKernel := hKernel)
    ∧ quiescent_KernelIdeal (hKernelIdeal := hKernelIdeal)
    ∧ quiescent_KernelIdeal_pre_zero_biases_and_weights (hKernelIdeal := hKernelIdeal) (hPre_zero_biases_and_weights := hPre_zero_biases_and_weights)
    ∧ quiescent_ReferenceIdeal (hReferenceIdeal := hReferenceIdeal)
    ∧ quiescent_ReferenceIdeal_pre_zero_biases_and_weights (hReferenceIdeal := hReferenceIdeal) (hPre_zero_biases_and_weights := hPre_zero_biases_and_weights)
    ∧ preserves_Kernel_KernelIdeal
    ∧ algebraic_KernelIdeal_ReferenceIdeal_pre_zero_biases_and_weights (hKernelIdeal := hKernelIdeal) (hReferenceIdeal := hReferenceIdeal) (hPre_zero_biases_and_weights := hPre_zero_biases_and_weights)
-- ==== Pre_zero_biases_and_weights.lean ====
abbrev S2x4096x1024 : Shape := ⟨3, ![2, 4096, 1024]⟩
abbrev S8192x8 : Shape := ⟨2, ![8192, 8]⟩
abbrev S8192x2 : Shape := ⟨2, ![8192, 2]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8x1024x8 : Shape := ⟨3, ![8, 1024, 8]⟩
abbrev S8x8x1024 : Shape := ⟨3, ![8, 8, 1024]⟩
abbrev S_ : Shape := ⟨0, ![]⟩

class Facts : Prop where
  bcast_S_S4096 : S_.BroadcastsInDim S4096 (![] : Fin 0 → Fin S4096.rank)
  bcast_S_S1024 : S_.BroadcastsInDim S1024 (![] : Fin 0 → Fin S1024.rank)
  bcast_S_S8192x2 : S_.BroadcastsInDim S8192x2 (![] : Fin 0 → Fin S8192x2.rank)

variable [Facts]

def fn {F : FTy → Type} [FloatOps F] (main_arg0 : FVec F S2x4096x1024 .f32) (main_arg1 : FVec F S8192x8 .f32) (main_arg2 : FVec F S8192x2 .f32) (main_arg3 : IVec S8192x2 32) (main_arg4 : FVec F S1024x4096 .f32) (main_arg5 : FVec F S4096 .f32) (main_arg6 : FVec F S4096x1024 .f32) (main_arg7 : FVec F S1024 .f32) (main_arg8 : FVec F S8x1024x8 .f32) (main_arg9 : FVec F S8x8x1024 .f32) : IVec S4096 1 × IVec S1024 1 × IVec S8192x2 1 × IVec S8192x2 1 :=
  let main_cst : FVec F S_ .f32 := constant S_ .f32 0x00000000#32
  let main_v0 : FVec F S4096 .f32 := broadcastInDim S4096 ![] bcast_S_S4096 main_cst
  let main_v1 : IVec S4096 1 := cmpf .oeq main_arg5 main_v0
  let main_cst_0 : FVec F S_ .f32 := constant S_ .f32 0x00000000#32
  let main_v2 : FVec F S1024 .f32 := broadcastInDim S1024 ![] bcast_S_S1024 main_cst_0
  let main_v3 : IVec S1024 1 := cmpf .oeq main_arg7 main_v2
  let main_cst_1 : FVec F S_ .f32 := constant S_ .f32 0x00000000#32
  let main_v4 : FVec F S8192x2 .f32 := broadcastInDim S8192x2 ![] bcast_S_S8192x2 main_cst_1
  let main_v5 : IVec S8192x2 1 := cmpf .oge main_arg2 main_v4
  let main_cst_2 : FVec F S_ .f32 := constant S_ .f32 0x7F800000#32
  let main_v6 : FVec F S8192x2 .f32 := broadcastInDim S8192x2 ![] bcast_S_S8192x2 main_cst_2
  let main_v7 : IVec S8192x2 1 := cmpf .olt main_arg2 main_v6
  (main_v1, main_v3, main_v5, main_v7)
-- ==== Kernel.lean ====
abbrev S2x4096x1024 : Shape := ⟨3, ![2, 4096, 1024]⟩
abbrev S8192x8 : Shape := ⟨2, ![8192, 8]⟩
abbrev S8192x2 : Shape := ⟨2, ![8192, 2]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8x1024x8 : Shape := ⟨3, ![8, 1024, 8]⟩
abbrev S8x8x1024 : Shape := ⟨3, ![8, 8, 1024]⟩
abbrev S8192x1024 : Shape := ⟨2, ![8192, 1024]⟩
abbrev S1024x8x8 : Shape := ⟨3, ![1024, 8, 8]⟩
abbrev S1024x64 : Shape := ⟨2, ![1024, 64]⟩
abbrev S64x1024 : Shape := ⟨2, ![64, 1024]⟩
abbrev S_ : Shape := ⟨0, ![]⟩
abbrev S1024x1024 : Shape := ⟨2, ![1024, 1024]⟩
abbrev S1024x2048 : Shape := ⟨2, ![1024, 2048]⟩
abbrev S2048x1024 : Shape := ⟨2, ![2048, 1024]⟩
abbrev S1024x2 : Shape := ⟨2, ![1024, 2]⟩
abbrev S1024x1 : Shape := ⟨2, ![1024, 1]⟩

abbrev nBuf : Space → Nat
  | .hbm => 27
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S8192x8, .f32⟩
  | .hbm, ⟨2, _⟩ => ⟨S8192x2, .f32⟩
  | .hbm, ⟨3, _⟩ => ⟨S8192x2, .i32⟩
  | .hbm, ⟨4, _⟩ => ⟨S1024x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S8x1024x8, .f32⟩
  | .hbm, ⟨9, _⟩ => ⟨S8x8x1024, .f32⟩
  | .hbm, ⟨10, _⟩ => ⟨S8192x1024, .f32⟩
  | .hbm, ⟨11, _⟩ => ⟨S8192x1024, .bf16⟩
  | .hbm, ⟨12, _⟩ => ⟨S1024x8x8, .f32⟩
  | .hbm, ⟨13, _⟩ => ⟨S1024x64, .f32⟩
  | .hbm, ⟨14, _⟩ => ⟨S1024x64, .bf16⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S64x1024, .f32⟩
  | .hbm, ⟨19, _⟩ => ⟨S64x1024, .bf16⟩
  | .hbm, ⟨20, _⟩ => ⟨S1024x4096, .bf16⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S8192x1024, .f32⟩
  | .hbm, ⟨26, _⟩ => ⟨S2x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x64, .bf16⟩
  | .local _ .vmem, ⟨7, _⟩ => ⟨S64x1024, .bf16⟩
  | .local _ .vmem, ⟨8, _⟩ => ⟨S1024x2, .f32⟩
  | .local _ .vmem, ⟨9, _⟩ => ⟨S1024x2, .f32⟩
  | .local _ .vmem, ⟨10, _⟩ => ⟨S1024x2, .i32⟩
  | .local _ .vmem, ⟨11, _⟩ => ⟨S1024x2, .i32⟩
  | .local _ .vmem, ⟨12, _⟩ => ⟨S1024x1024, .f32⟩
  | .local _ .vmem, ⟨13, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_cst : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_cst_0 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg1 : BitVec 32 := BitVec.ofNat 32 (i 1).val
  let c0_i32_9 : BitVec 32 := 0#32
  let v18 : BitVec 1 := Scalar.cmpi .ne arg1 c0_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x4096x1024 : Shape := ⟨3, ![2, 4096, 1024]⟩
abbrev S8192x8 : Shape := ⟨2, ![8192, 8]⟩
abbrev S8192x2 : Shape := ⟨2, ![8192, 2]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8x1024x8 : Shape := ⟨3, ![8, 1024, 8]⟩
abbrev S8x8x1024 : Shape := ⟨3, ![8, 8, 1024]⟩
abbrev S2x4096x4096 : Shape := ⟨3, ![2, 4096, 4096]⟩
abbrev S1x1x4096 : Shape := ⟨3, ![1, 1, 4096]⟩
abbrev S_ : Shape := ⟨0, ![]⟩
abbrev S1x1x1024 : Shape := ⟨3, ![1, 1, 1024]⟩
abbrev S8192x1024 : Shape := ⟨2, ![8192, 1024]⟩
abbrev S1x1024x8 : Shape := ⟨3, ![1, 1024, 8]⟩
abbrev S1024x8 : Shape := ⟨2, ![1024, 8]⟩
abbrev S1x8x1024 : Shape := ⟨3, ![1, 8, 1024]⟩
abbrev S8x1024 : Shape := ⟨2, ![8, 1024]⟩
abbrev S8192 : Shape := ⟨1, ![8192]⟩
abbrev S8192x1 : Shape := ⟨2, ![8192, 1]⟩

abbrev nBuf : Space → Nat
  | .hbm => 264
  | .vmem => 0
  | .smem => 0
  | _ => 0

abbrev hbmTy0_0 (i : Nat) : BufTy := match i % 128 with
  | 0 => ⟨S2x4096x1024, .f32⟩
  | 1 => ⟨S8192x8, .f32⟩
  | 2 => ⟨S8192x2, .f32⟩
  | 3 => ⟨S8192x2, .i32⟩
  | 4 => ⟨S1024x4096, .f32⟩
  | 5 => ⟨S4096, .f32⟩
  | 6 => ⟨S4096x1024, .f32⟩
  | 7 => ⟨S1024, .f32⟩
  | 8 => ⟨S8x1024x8, .f32⟩
  | 9 => ⟨S8x8x1024, .f32⟩
  | 10 => ⟨S2x4096x4096, .f32⟩
  | 11 => ⟨S1x1x4096, .f32⟩
  | 12 => ⟨S2x4096x4096, .f32⟩
  | 13 => ⟨S2x4096x4096, .f32⟩
  | 14 => ⟨S_, .f32⟩
  | 15 => ⟨S2x4096x4096, .f32⟩
  | 16 => ⟨S2x4096x4096, .f32⟩
  | 17 => ⟨S2x4096x4096, .f32⟩
  | 18 => ⟨S_, .f32⟩
  | 19 => ⟨S2x4096x4096, .f32⟩
  | 20 => ⟨S2x4096x4096, .f32⟩
  | 21 => ⟨S2x4096x4096, .f32⟩
  | 22 => ⟨S2x4096x4096, .f32⟩
  | 23 => ⟨S2x4096x1024, .f32⟩
  | 24 => ⟨S1x1x1024, .f32⟩
  | 25 => ⟨S2x4096x1024, .f32⟩
  | 26 => ⟨S2x4096x1024, .f32⟩
  | 27 => ⟨S8192x1024, .f32⟩
  | 28 => ⟨S_, .f32⟩
  | 29 => ⟨S8192x1024, .f32⟩
  | 30 => ⟨S1x1024x8, .f32⟩
  | 31 => ⟨S1024x8, .f32⟩
  | 32 => ⟨S8192x8, .f32⟩
  | 33 => ⟨S_, .f32⟩
  | 34 => ⟨S8192x8, .f32⟩
  | 35 => ⟨S8192x8, .f32⟩
  | 36 => ⟨S8192x8, .f32⟩
  | 37 => ⟨S_, .f32⟩
  | 38 => ⟨S8192x8, .f32⟩
  | 39 => ⟨S8192x8, .f32⟩
  | 40 => ⟨S8192x8, .f32⟩
  | 41 => ⟨S8192x8, .f32⟩
  | 42 => ⟨S1x8x1024, .f32⟩
  | 43 => ⟨S8x1024, .f32⟩
  | 44 => ⟨S8192x1024, .f32⟩
  | 45 => ⟨S_, .f32⟩
  | 46 => ⟨S8192x1024, .f32⟩
  | 47 => ⟨S8192x1024, .f32⟩
  | 48 => ⟨S_, .i32⟩
  | 49 => ⟨S8192x2, .i32⟩
  | 50 => ⟨S8192x2, .i1⟩
  | 51 => ⟨S8192x2, .f32⟩
  | 52 => ⟨S8192x2, .f32⟩
  | 53 => ⟨S_, .f32⟩
  | 54 => ⟨S8192, .f32⟩
  | 55 => ⟨S8192x1, .f32⟩
  | 56 => ⟨S8192x1024, .f32⟩
  | 57 => ⟨S8192x1024, .f32⟩
  | 58 => ⟨S8192x1024, .f32⟩
  | 59 => ⟨S1x1024x8, .f32⟩
  | 60 => ⟨S1024x8, .f32⟩
  | 61 => ⟨S8192x8, .f32⟩
  | 62 => ⟨S_, .f32⟩
  | 63 => ⟨S8192x8, .f32⟩
  | 64 => ⟨S8192x8, .f32⟩
  | 65 => ⟨S8192x8, .f32⟩
  | 66 => ⟨S_, .f32⟩
  | 67 => ⟨S8192x8, .f32⟩
  | 68 => ⟨S8192x8, .f32⟩
  | 69 => ⟨S8192x8, .f32⟩
  | 70 => ⟨S8192x8, .f32⟩
  | 71 => ⟨S1x8x1024, .f32⟩
  | 72 => ⟨S8x1024, .f32⟩
  | 73 => ⟨S8192x1024, .f32⟩
  | 74 => ⟨S_, .f32⟩
  | 75 => ⟨S8192x1024, .f32⟩
  | 76 => ⟨S8192x1024, .f32⟩
  | 77 => ⟨S_, .i32⟩
  | 78 => ⟨S8192x2, .i32⟩
  | 79 => ⟨S8192x2, .i1⟩
  | 80 => ⟨S8192x2, .f32⟩
  | 81 => ⟨S8192x2, .f32⟩
  | 82 => ⟨S_, .f32⟩
  | 83 => ⟨S8192, .f32⟩
  | 84 => ⟨S8192x1, .f32⟩
  | 85 => ⟨S8192x1024, .f32⟩
  | 86 => ⟨S8192x1024, .f32⟩
  | 87 => ⟨S8192x1024, .f32⟩
  | 88 => ⟨S1x1024x8, .f32⟩
  | 89 => ⟨S1024x8, .f32⟩
  | 90 => ⟨S8192x8, .f32⟩
  | 91 => ⟨S_, .f32⟩
  | 92 => ⟨S8192x8, .f32⟩
  | 93 => ⟨S8192x8, .f32⟩
  | 94 => ⟨S8192x8, .f32⟩
  | 95 => ⟨S_, .f32⟩
  | 96 => ⟨S8192x8, .f32⟩
  | 97 => ⟨S8192x8, .f32⟩
  | 98 => ⟨S8192x8, .f32⟩
  | 99 => ⟨S8192x8, .f32⟩
  | 100 => ⟨S1x8x1024, .f32⟩
  | 101 => ⟨S8x1024, .f32⟩
  | 102 => ⟨S8192x1024, .f32⟩
  | 103 => ⟨S_, .f32⟩
  | 104 => ⟨S8192x1024, .f32⟩
  | 105 => ⟨S8192x1024, .f32⟩
  | 106 => ⟨S_, .i32⟩
  | 107 => ⟨S8192x2, .i32⟩
  | 108 => ⟨S8192x2, .i1⟩
  | 109 => ⟨S8192x2, .f32⟩
  | 110 => ⟨S8192x2, .f32⟩
  | 111 => ⟨S_, .f32⟩
  | 112 => ⟨S8192, .f32⟩
  | 113 => ⟨S8192x1, .f32⟩
  | 114 => ⟨S8192x1024, .f32⟩
  | 115 => ⟨S8192x1024, .f32⟩
  | 116 => ⟨S8192x1024, .f32⟩
  | 117 => ⟨S1x1024x8, .f32⟩
  | 118 => ⟨S1024x8, .f32⟩
  | 119 => ⟨S8192x8, .f32⟩
  | 120 => ⟨S_, .f32⟩
  | 121 => ⟨S8192x8, .f32⟩
  | 122 => ⟨S8192x8, .f32⟩
  | 123 => ⟨S8192x8, .f32⟩
  | 124 => ⟨S_, .f32⟩
  | 125 => ⟨S8192x8, .f32⟩
  | 126 => ⟨S8192x8, .f32⟩
  | 127 => ⟨S8192x8, .f32⟩
  | _ => ⟨S2x4096x1024, .f32⟩

abbrev hbmTy0_1 (i : Nat) : BufTy := match i % 128 with
  | 0 => ⟨S8192x8, .f32⟩
  | 1 => ⟨S1x8x1024, .f32⟩
  | 2 => ⟨S8x1024, .f32⟩
  | 3 => ⟨S8192x1024, .f32⟩
  | 4 => ⟨S_, .f32⟩
  | 5 => ⟨S8192x1024, .f32⟩
  | 6 => ⟨S8192x1024, .f32⟩
  | 7 => ⟨S_, .i32⟩
  | 8 => ⟨S8192x2, .i32⟩
  | 9 => ⟨S8192x2, .i1⟩
  | 10 => ⟨S8192x2, .f32⟩
  | 11 => ⟨S8192x2, .f32⟩
  | 12 => ⟨S_, .f32⟩
  | 13 => ⟨S8192, .f32⟩
  | 14 => ⟨S8192x1, .f32⟩
  | 15 => ⟨S8192x1024, .f32⟩
  | 16 => ⟨S8192x1024, .f32⟩
  | 17 => ⟨S8192x1024, .f32⟩
  | 18 => ⟨S1x1024x8, .f32⟩
  | 19 => ⟨S1024x8, .f32⟩
  | 20 => ⟨S8192x8, .f32⟩
  | 21 => ⟨S_, .f32⟩
  | 22 => ⟨S8192x8, .f32⟩
  | 23 => ⟨S8192x8, .f32⟩
  | 24 => ⟨S8192x8, .f32⟩
  | 25 => ⟨S_, .f32⟩
  | 26 => ⟨S8192x8, .f32⟩
  | 27 => ⟨S8192x8, .f32⟩
  | 28 => ⟨S8192x8, .f32⟩
  | 29 => ⟨S8192x8, .f32⟩
  | 30 => ⟨S1x8x1024, .f32⟩
  | 31 => ⟨S8x1024, .f32⟩
  | 32 => ⟨S8192x1024, .f32⟩
  | 33 => ⟨S_, .f32⟩
  | 34 => ⟨S8192x1024, .f32⟩
  | 35 => ⟨S8192x1024, .f32⟩
  | 36 => ⟨S_, .i32⟩
  | 37 => ⟨S8192x2, .i32⟩
  | 38 => ⟨S8192x2, .i1⟩
  | 39 => ⟨S8192x2, .f32⟩
  | 40 => ⟨S8192x2, .f32⟩
  | 41 => ⟨S_, .f32⟩
  | 42 => ⟨S8192, .f32⟩
  | 43 => ⟨S8192x1, .f32⟩
  | 44 => ⟨S8192x1024, .f32⟩
  | 45 => ⟨S8192x1024, .f32⟩
  | 46 => ⟨S8192x1024, .f32⟩
  | 47 => ⟨S1x1024x8, .f32⟩
  | 48 => ⟨S1024x8, .f32⟩
  | 49 => ⟨S8192x8, .f32⟩
  | 50 => ⟨S_, .f32⟩
  | 51 => ⟨S8192x8, .f32⟩
  | 52 => ⟨S8192x8, .f32⟩
  | 53 => ⟨S8192x8, .f32⟩
  | 54 => ⟨S_, .f32⟩
  | 55 => ⟨S8192x8, .f32⟩
  | 56 => ⟨S8192x8, .f32⟩
  | 57 => ⟨S8192x8, .f32⟩
  | 58 => ⟨S8192x8, .f32⟩
  | 59 => ⟨S1x8x1024, .f32⟩
  | 60 => ⟨S8x1024, .f32⟩
  | 61 => ⟨S8192x1024, .f32⟩
  | 62 => ⟨S_, .f32⟩
  | 63 => ⟨S8192x1024, .f32⟩
  | 64 => ⟨S8192x1024, .f32⟩
  | 65 => ⟨S_, .i32⟩
  | 66 => ⟨S8192x2, .i32⟩
  | 67 => ⟨S8192x2, .i1⟩
  | 68 => ⟨S8192x2, .f32⟩
  | 69 => ⟨S8192x2, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S1x1024x8, .f32⟩
  | 77 => ⟨S1024x8, .f32⟩
  | 78 => ⟨S8192x8, .f32⟩
  | 79 => ⟨S_, .f32⟩
  | 80 => ⟨S8192x8, .f32⟩
  | 81 => ⟨S8192x8, .f32⟩
  | 82 => ⟨S8192x8, .f32⟩
  | 83 => ⟨S_, .f32⟩
  | 84 => ⟨S8192x8, .f32⟩
  | 85 => ⟨S8192x8, .f32⟩
  | 86 => ⟨S8192x8, .f32⟩
  | 87 => ⟨S8192x8, .f32⟩
  | 88 => ⟨S1x8x1024, .f32⟩
  | 89 => ⟨S8x1024, .f32⟩
  | 90 => ⟨S8192x1024, .f32⟩
  | 91 => ⟨S_, .f32⟩
  | 92 => ⟨S8192x1024, .f32⟩
  | 93 => ⟨S8192x1024, .f32⟩
  | 94 => ⟨S_, .i32⟩
  | 95 => ⟨S8192x2, .i32⟩
  | 96 => ⟨S8192x2, .i1⟩
  | 97 => ⟨S8192x2, .f32⟩
  | 98 => ⟨S8192x2, .f32⟩
  | 99 => ⟨S_, .f32⟩
  | 100 => ⟨S8192, .f32⟩
  | 101 => ⟨S8192x1, .f32⟩
  | 102 => ⟨S8192x1024, .f32⟩
  | 103 => ⟨S8192x1024, .f32⟩
  | 104 => ⟨S8192x1024, .f32⟩
  | 105 => ⟨S1x1024x8, .f32⟩
  | 106 => ⟨S1024x8, .f32⟩
  | 107 => ⟨S8192x8, .f32⟩
  | 108 => ⟨S_, .f32⟩
  | 109 => ⟨S8192x8, .f32⟩
  | 110 => ⟨S8192x8, .f32⟩
  | 111 => ⟨S8192x8, .f32⟩
  | 112 => ⟨S_, .f32⟩
  | 113 => ⟨S8192x8, .f32⟩
  | 114 => ⟨S8192x8, .f32⟩
  | 115 => ⟨S8192x8, .f32⟩
  | 116 => ⟨S8192x8, .f32⟩
  | 117 => ⟨S1x8x1024, .f32⟩
  | 118 => ⟨S8x1024, .f32⟩
  | 119 => ⟨S8192x1024, .f32⟩
  | 120 => ⟨S_, .f32⟩
  | 121 => ⟨S8192x1024, .f32⟩
  | 122 => ⟨S8192x1024, .f32⟩
  | 123 => ⟨S_, .i32⟩
  | 124 => ⟨S8192x2, .i32⟩
  | 125 => ⟨S8192x2, .i1⟩
  | 126 => ⟨S8192x2, .f32⟩
  | 127 => ⟨S8192x2, .f32⟩
  | _ => ⟨S2x4096x1024, .f32⟩

abbrev hbmTy0_2 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1024, .f32⟩
  | 6 => ⟨S2x4096x1024, .f32⟩
  | 7 => ⟨S2x4096x1024, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_c_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_16 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_18 : Ref sig .tc := ⟨.hbm, 132, rfl⟩
abbrev main_v102 : Ref sig .tc := ⟨.hbm, 133, rfl⟩
abbrev main_v103 : Ref sig .tc := ⟨.hbm, 134, rfl⟩
abbrev main_c_19 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_20 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_21 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_22 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_23 : Ref sig .tc := ⟨.hbm, 161, rfl⟩
abbrev main_v126 : Ref sig .tc := ⟨.hbm, 162, rfl⟩
abbrev main_v127 : Ref sig .tc := ⟨.hbm, 163, rfl⟩
abbrev main_c_24 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_25 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_26 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_27 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_28 : Ref sig .tc := ⟨.hbm, 190, rfl⟩
abbrev main_v150 : Ref sig .tc := ⟨.hbm, 191, rfl⟩
abbrev main_v151 : Ref sig .tc := ⟨.hbm, 192, rfl⟩
abbrev main_c_29 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_30 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_31 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_32 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_cst_33 : Ref sig .tc := ⟨.hbm, 219, rfl⟩
abbrev main_v174 : Ref sig .tc := ⟨.hbm, 220, rfl⟩
abbrev main_v175 : Ref sig .tc := ⟨.hbm, 221, rfl⟩
abbrev main_c_34 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_35 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_cst_36 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_37 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_38 : Ref sig .tc := ⟨.hbm, 248, rfl⟩
abbrev main_v198 : Ref sig .tc := ⟨.hbm, 249, rfl⟩
abbrev main_v199 : Ref sig .tc := ⟨.hbm, 250, rfl⟩
abbrev main_c_39 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_cst_40 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩

abbrev nD : Nat := 1
abbrev τ : Topo := Topo.v7x

variable {F : FTy → Type} [FloatOps F]
-- ==== Proof.Arith.lean ====
/- The arithmetic the comparison needs, on the extended reals alone: the two spellings of GELU, a hidden sum in
   two halves, a routing weight taken into an adapter's sum, and the sixty-four lanes as eight experts of eight. -/
module

public import Idealize.ShloMosaic.PureOps.Ideal.Laws
public import Mathlib.Logic.Equiv.Fin.Basic
public import Mathlib.Algebra.BigOperators.Fin
public import Mathlib.Data.EReal.Operations

@[expose] public section

noncomputable section

namespace Cert.Arith

open Idealize.ShloMosaic

/-- Twice the exact GELU, as the kernel writes it: `v · (1 + erf (v · c))`. -/
def gelu2 (c v : EReal) : EReal := v * (1 + Ideal.erf (v * c))

/-- Half of it, written with the complementary error function of the negated argument, is the reference's GELU. -/
theorem gelu_erfc (h c v : EReal) : h * v * Ideal.erfc (-v * c) = h * gelu2 c v := by
  rw [neg_mul, Ideal.erfc_neg, mul_assoc]; rfl

/-- The half may be taken to the other factor. -/
theorem half_swap (h g w : EReal) : h * g * w = g * (w * h) := by
  rw [mul_comm h g, mul_assoc, mul_comm h w]

/-- A nonnegative finite weight goes into a finite sum. -/
theorem sum_mul_weight {ι : Type} (s : Finset ι) (f : ι → EReal) (w : EReal) (h0 : 0 ≤ w) (ht : w ≠ ⊤) :
    (∑ i ∈ s, f i) * w = ∑ i ∈ s, f i * w := by
  classical
  induction s using Finset.induction_on with
  | empty => simp
  | insert a s ha ih =>
    rw [Finset.sum_insert ha, Finset.sum_insert ha, ← ih, EReal.right_distrib_of_nonneg_of_ne_top h0 ht]

/-- One expert's output times its weight: the reference weighs the adapter's output, the kernel its hidden lanes. -/
theorem expert_eq (h c w : EReal) (h0 : 0 ≤ w) (ht : w ≠ ⊤) (a u : Fin 8 → EReal) :
    (∑ r, h * a r * Ideal.erfc (-a r * c) * u r) * 1 * w = ∑ r, gelu2 c (a r) * w * (u r * h) := by
  rw [mul_one, sum_mul_weight _ _ _ h0 ht]
  refine Finset.sum_congr rfl fun r _ => ?_
  rw [gelu_erfc, half_swap h (gelu2 c (a r)), mul_right_comm]

/-- Eight terms added to zero one after another are their sum. -/
theorem chain_eight (f : Fin 8 → EReal) :
    0 + f 0 + f 1 + f 2 + f 3 + f 4 + f 5 + f 6 + f 7 = ∑ e, f e := by
  rw [Fin.sum_univ_eight, zero_add]

/-- A sum over sixty-four lanes is a sum over eight experts of eight lanes each. -/
theorem sum_lanes (f : Fin 8 → Fin 8 → EReal) :
    ∑ q : Fin 64, f ⟨q.val / 8, by omega⟩ ⟨q.val % 8, by omega⟩ = ∑ e, ∑ r, f e r := by
  rw [← Fintype.sum_prod_type', ← Equiv.sum_comp (finProdFinEquiv (m := 8) (n := 8))]
  refine Finset.sum_congr rfl fun p _ => ?_
  obtain ⟨e, r⟩ := p
  have h1 : (finProdFinEquiv (m := 8) (n := 8) (e, r)).val = r.val + 8 * e.val := rfl
  have e1 : (⟨(finProdFinEquiv (m := 8) (n := 8) (e, r)).val / 8, by omega⟩ : Fin 8) = e := Fin.ext (by
    show (finProdFinEquiv (m := 8) (n := 8) (e, r)).val / 8 = e.val
    rw [h1]; omega)
  have e2 : (⟨(finProdFinEquiv (m := 8) (n := 8) (e, r)).val % 8, by omega⟩ : Fin 8) = r := Fin.ext (by
    show (finProdFinEquiv (m := 8) (n := 8) (e, r)).val % 8 = r.val
    rw [h1]; omega)
  exact congrArg₂ f e1 e2

/-- A sum over the hidden width is a sum over its two halves. -/
theorem sum_halves (f : Fin 4096 → EReal) :
    ∑ h, f h = ∑ k : Fin 2048, f ⟨k.val, by omega⟩ + ∑ k : Fin 2048, f ⟨2048 + k.val, by omega⟩ :=
  Fin.sum_univ_add (a := 2048) (b := 2048) f

/-- A routing weight, a sum of two nonnegative finite probabilities each kept or dropped, is nonnegative and finite. -/
theorem weight_bounds (p0 p1 : EReal) (b0 b1 : Prop) [Decidable b0] [Decidable b1]
    (h0 : 0 ≤ p0) (h0t : p0 < ⊤) (h1 : 0 ≤ p1) (h1t : p1 < ⊤) :
    0 ≤ p0 * (if b0 then 1 else 0) + p1 * (if b1 then 1 else 0)
      ∧ p0 * (if b0 then 1 else 0) + p1 * (if b1 then 1 else 0) ≠ ⊤ := by
  have k0 : 0 ≤ p0 * (if b0 then 1 else 0) ∧ p0 * (if b0 then 1 else 0) < ⊤ := by
    split <;> simp [h0, h0t]
  have k1 : 0 ≤ p1 * (if b1 then 1 else 0) ∧ p1 * (if b1 then 1 else 0) < ⊤ := by
    split <;> simp [h1, h1t]
  exact ⟨add_nonneg k0.1 k1.1, (EReal.add_lt_top k0.2.ne k1.2.ne).ne⟩

/-- What the row of a token and a column of the output hold, from the row's hidden products `v`, its adapter products
    `a`, the two halved weight columns and the row's eight routing weights: the feed-forward sum and the adapters' sum. -/
theorem row_eq (h c : EReal) (v w2 : Fin 4096 → EReal) (a u : Fin 8 → Fin 8 → EReal) (w : Fin 8 → EReal)
    (h0 : ∀ e, 0 ≤ w e) (ht : ∀ e, w e ≠ ⊤) :
    (∑ k, h * v k * Ideal.erfc (-v k * c) * w2 k) + ∑ e, (∑ r, h * a e r * Ideal.erfc (-a e r * c) * u e r) * 1 * w e
      = (∑ k : Fin 2048, gelu2 c (v ⟨k.val, by omega⟩) * (w2 ⟨k.val, by omega⟩ * h)
          + ∑ q : Fin 64, gelu2 c (a ⟨q.val / 8, by omega⟩ ⟨q.val % 8, by omega⟩) * w ⟨q.val / 8, by omega⟩
              * (u ⟨q.val / 8, by omega⟩ ⟨q.val % 8, by omega⟩ * h))
        + ∑ k : Fin 2048, gelu2 c (v ⟨2048 + k.val, by omega⟩) * (w2 ⟨2048 + k.val, by omega⟩ * h) := by
  rw [sum_lanes fun e r => gelu2 c (a e r) * w e * (u e r * h), sum_halves, add_right_comm]
  refine congrArg₂ (· + ·) (congrArg₂ (· + ·) ?_ ?_) ?_
  · exact Finset.sum_congr rfl fun k _ => by rw [gelu_erfc, half_swap]
  · exact Finset.sum_congr rfl fun e _ => expert_eq h c (w e) (h0 e) (ht e) (a e) (u e)
  · exact Finset.sum_congr rfl fun k _ => by rw [gelu_erfc, half_swap]

end Cert.Arith

end
-- ==== Proof.Block.lean ====
/- What one grid point leaves in the output's block, as the kernel's own arithmetic of the point's input blocks. -/
module

public import proofs.«01_k».proof.Proof.Arith
public import proofs.«01_k».proof.Proof.Gen.KernelIdeal.Frame
public import Idealize.ShloMosaic.Lib.Pipeline.Value
public import Idealize.ShloMosaic.Lib.Pipeline.ValueKit.Tiles
public import Idealize.ShloMosaic.Lib.ValueIdx
public import Idealize.ShloMosaic.Lib.MatmulPlain
public import Idealize.ShloMosaic.Lib.Pointwise.Tactic
public import Idealize.ShloMosaic.Lib.Tactic

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

/-- Zero offsets on both axes. -/
theorem hz : (![0, 0] : Fin 2 → Nat) = fun _ => 0 := funext fun a => by fin_cases a <;> rfl

/-- Column `0` of a block of pairs. -/
abbrev col0 {e : EltTy} (x : Vec Ideal S1024x2 e) : Vec Ideal S1024x1 e :=
  View.ld x (Rect.unit (s := S1024x2) ![0, 0] S1024x1.size inb_S1024x2_S1024x1_0_0)

/-- Column `1` of a block of pairs. -/
abbrev col1 {e : EltTy} (x : Vec Ideal S1024x2 e) : Vec Ideal S1024x1 e :=
  View.ld x (Rect.unit (s := S1024x2) ![0, 1] S1024x1.size inb_S1024x2_S1024x1_0_1)

/-- At a first hidden half the body leaves the half's feed-forward product plus the adapters' product. -/
theorem out_A (c : Dev nD) (i : grid0.Coords) (a2 : Memref sig .tc .vmem S1024x1024 .bf16) (h2 : a2.IsWhole)
    (a3 : Memref sig .tc .vmem S1024x2048 .bf16) (h3 : a3.IsWhole) (a4 : Memref sig .tc .vmem S2048x1024 .bf16) (h4 : a4.IsWhole)
    (a5 : Memref sig .tc .vmem S1024x64 .bf16) (h5 : a5.IsWhole) (a6 : Memref sig .tc .vmem S64x1024 .bf16) (h6 : a6.IsWhole)
    (a7 : Memref sig .tc .vmem S1024x2 .f32) (h7 : a7.IsWhole) (a8 : Memref sig .tc .vmem S1024x2 .i32) (h8 : a8.IsWhole)
    (a9 : Memref sig .tc .vmem S1024x1024 .f32) (h9 : a9.IsWhole) (hc0 : cond0_0 i) (hc1 : ¬cond0_1 i)
    (x0 : Vec Ideal S1024x1024 .bf16) (x1 : Vec Ideal S1024x2048 .bf16) (x2 : Vec Ideal S2048x1024 .bf16)
    (x3 : Vec Ideal S1024x64 .bf16) (x4 : Vec Ideal S64x1024 .bf16) (x5 : Vec Ideal S1024x2 .f32) (x6 : Vec Ideal S1024x2 .i32) :
    out0_A_7 c i a2 h2 a3 h3 a4 h4 a5 h5 a6 h6 a7 h7 a8 h8 a9 h9 hc0 hc1 x0 x1 x2 x3 x4 x5 x6
      = k0_pay3 x0 x1 x2 (k0_pay5 (k0_pay1 x0) x3) k0_pay6 (k0_pay7 (F := Ideal)) (k0_pay8 (col0 x5) (col0 x6)) (col1 x5) (col1 x6) x4 := by
  unfold out0_A_7
  rw [View.read_writes_eq_canon _ _ _ (cover0_A_7 c i a2 h2 a3 h3 a4 h4 a5 h5 a6 h6 a7 h7 a8 h8 a9 h9 hc0 hc1 x0 x1 x2 x3 x4 x5 x6)]
  unfold kernelRun0_A
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S1024x1024) hz, View.ld_unit_zero (S := S1024x2048) hz, View.ld_unit_zero (S := S2048x1024) hz,
    View.ld_unit_zero (S := S1024x64) hz, View.ld_unit_zero (S := S64x1024) hz]

/-- At a second hidden half the body adds that half's feed-forward product to what the block holds. -/
theorem out_B (c : Dev nD) (i : grid0.Coords) (a2 : Memref sig .tc .vmem S1024x1024 .bf16) (h2 : a2.IsWhole)
    (a3 : Memref sig .tc .vmem S1024x2048 .bf16) (h3 : a3.IsWhole) (a4 : Memref sig .tc .vmem S2048x1024 .bf16) (h4 : a4.IsWhole)
    (a5 : Memref sig .tc .vmem S1024x64 .bf16) (h5 : a5.IsWhole) (a6 : Memref sig .tc .vmem S64x1024 .bf16) (h6 : a6.IsWhole)
    (a7 : Memref sig .tc .vmem S1024x2 .f32) (h7 : a7.IsWhole) (a8 : Memref sig .tc .vmem S1024x2 .i32) (h8 : a8.IsWhole)
    (a9 : Memref sig .tc .vmem S1024x1024 .f32) (h9 : a9.IsWhole) (hc0 : ¬cond0_0 i) (hc1 : cond0_1 i)
    (x0 : Vec Ideal S1024x1024 .bf16) (x1 : Vec Ideal S1024x2048 .bf16) (x2 : Vec Ideal S2048x1024 .bf16)
    (x3 : Vec Ideal S1024x64 .bf16) (x4 : Vec Ideal S64x1024 .bf16) (x5 : Vec Ideal S1024x2 .f32) (x6 : Vec Ideal S1024x2 .i32)
    (xo : Vec Ideal S1024x1024 .f32) :
    out0_B_7 c i a2 h2 a3 h3 a4 h4 a5 h5 a6 h6 a7 h7 a8 h8 a9 h9 hc0 hc1 x0 x1 x2 x3 x4 x5 x6 xo = k0_pay4 x0 x1 x2 xo := by
  unfold out0_B_7
  rw [View.read_writes_eq_canon _ _ _ (cover0_B_7 c i a2 h2 a3 h3 a4 h4 a5 h5 a6 h6 a7 h7 a8 h8 a9 h9 hc0 hc1 x0 x1 x2 x3 x4 x5 x6 xo)]
  unfold kernelRun0_B
  dsimp only
  sl_unfold_words
  rw [View.canon_unit_zero hz]
  simp only [View.readAt_eq_ld, h2.read_unread, h3.read_unread, h4.read_unread, h9.read_unread,
    View.ld_unit_zero (S := S1024x1024) hz, View.ld_unit_zero (S := S1024x2048) hz, View.ld_unit_zero (S := S2048x1024) hz]

/-! ## The two values at an index -/

/-- The constant the error function's argument is scaled by, the word both programs carry. -/
abbrev c₀ : EReal := Ideal.ofBits .f32 0x3F3504F3#32

/-- A plain product into zeros, read at a row and a column. -/
theorem mm {M K N : ℕ} {φ₁ φ₂ : FTy} (d : DotDims ⟨2, ![M, K]⟩ ⟨2, ![K, N]⟩ ⟨2, ![M, N]⟩) (hd : d = DotDims.plain M K N)
    (x : FVec Ideal ⟨2, ![M, K]⟩ φ₁) (y : FVec Ideal ⟨2, ![K, N]⟩ φ₂) (r : Fin M) (n : Fin N) :
    matmul d none x y (constant ⟨2, ![M, N]⟩ .f32 0x00000000#32) (ix2 r n) = ∑ k : Fin K, x (ix2 r k) * y (ix2 k n) := by
  subst hd
  refine (Ideal.matmul_plain_apply none x y _ r n).trans ?_
  show Ideal.ofBits .f32 0x00000000#32 + _ = _
  rw [Ideal.ofBits_zero_f32, zero_add]; rfl

/-- The doubled GELU of an array, read at an index. -/
theorem gelu_apply {S : Shape} (v : FVec Ideal S .f32) (i : S.Idx) :
    mulf v (addf (broadcast S (Scalar.ofBits .f32 0x3F800000#32)) (erf (mulf v (broadcast S (Scalar.ofBits .f32 0x3F3504F3#32))))) i
      = Arith.gelu2 c₀ (v i) := by
  show v i * (Ideal.ofBits .f32 0x3F800000#32 + Ideal.erf (v i * c₀)) = _
  rw [Ideal.ofBits_one_f32]; rfl

/-- The feed-forward product of a block of tokens with half the hidden width. -/
theorem part_apply (x0 : Vec Ideal S1024x1024 .bf16) (x1 : Vec Ideal S1024x2048 .bf16) (x2 : Vec Ideal S2048x1024 .bf16)
    (r : Fin 1024) (n : Fin 1024) :
    k0_pay2 x0 x1 x2 (ix2 r n)
      = ∑ k : Fin 2048, Arith.gelu2 c₀ (∑ l : Fin 1024, x0 (ix2 r l) * x1 (ix2 l k)) * x2 (ix2 k n) := by
  unfold k0_pay2 k0_pay1
  simp only [shapeCast_self]
  refine (mm (φ₁ := .bf16) (φ₂ := .bf16) _ rfl _ x2 r n).trans (Finset.sum_congr rfl fun k _ => congrArg (· * x2 (ix2 k n)) ?_)
  rw [← mm (φ₁ := .bf16) (φ₂ := .bf16) dot_S1024x1024_S1024x2048_S1024x2048_1_0_0_1_n_n rfl x0 x1 r k]
  exact gelu_apply _ _

/-- The doubled GELU of the adapters' hidden lanes. -/
theorem lanes_apply (x0 : Vec Ideal S1024x1024 .bf16) (x3 : Vec Ideal S1024x64 .bf16) (r : Fin 1024) (q : Fin 64) :
    k0_pay5 (k0_pay1 x0) x3 (ix2 r q) = Arith.gelu2 c₀ (∑ l : Fin 1024, x0 (ix2 r l) * x3 (ix2 l q)) := by
  unfold k0_pay5 k0_pay1
  simp only [shapeCast_self]
  rw [← mm (φ₁ := .bf16) (φ₂ := .bf16) dot_S1024x1024_S1024x64_S1024x64_1_0_0_1_n_n rfl x0 x3 r q]
  exact gelu_apply _ _

/-- A comparison of two words, read as a float, is one where they are equal and zero elsewhere. -/
theorem indicator_apply {S : Shape} (x y : IVec S 32) (i : S.Idx) :
    (sitofp .f32 (extui 32 (cmpi .eq x y) natLt_1_32) : FVec Ideal S .f32) i = if x i = y i then 1 else 0 := by
  show ((((BitVec.ofBool (x i == y i)).setWidth 32).toInt : ℝ) : EReal) = _
  by_cases h : x i = y i
  · rw [if_pos h, beq_iff_eq.mpr h, show ((BitVec.ofBool true).setWidth 32).toInt = 1 from by decide]; norm_num
  · rw [if_neg h, beq_eq_false_iff_ne.mpr h, show ((BitVec.ofBool false).setWidth 32).toInt = 0 from by decide]; norm_num

/-- The first column of a block of pairs, spread over the lanes. -/
theorem spread0 {e : EltTy} (x : Vec Ideal S1024x2 e) (r : Fin 1024) (q : Fin 64) :
    broadcastTo S1024x64 (col0 x) broadcasts_S1024x1_S1024x64 (ix2 r q) = x (ix2 r 0) := by
  rw [Pointwise.broadcastTo_apply]
  refine (View.ld_apply x _ _).trans (congrArg x (funext fun a => Fin.ext ?_))
  match a with
  | ⟨0, _⟩ => show 0 + 1 * r.val = r.val; omega
  | ⟨1, _⟩ => show 0 + 1 * 0 = 0; omega

/-- The second column of a block of pairs, spread over the lanes. -/
theorem spread1 {e : EltTy} (x : Vec Ideal S1024x2 e) (r : Fin 1024) (q : Fin 64) :
    broadcastTo S1024x64 (col1 x) broadcasts_S1024x1_S1024x64 (ix2 r q) = x (ix2 r 1) := by
  rw [Pointwise.broadcastTo_apply]
  refine (View.ld_apply x _ _).trans (congrArg x (funext fun a => Fin.ext ?_))
  match a with
  | ⟨0, _⟩ => show 0 + 1 * r.val = r.val; omega
  | ⟨1, _⟩ => show 1 + 1 * 0 = 1; omega

/-- The kernel's integer division of a lane's number by eight is the number of the lane's expert. -/
theorem expert_apply (r : Fin 1024) (q : Fin 64) : k0_pay6 (ix2 r q) = BitVec.ofNat 32 (q.val / 8) := by
  unfold k0_pay6
  pointwise
  revert q
  decide +kernel

/-- The routing weight of a row for an expert, from the row's two probabilities and two expert numbers. -/
abbrev weight (p0 p1 : EReal) (i0 i1 : BitVec 32) (e : ℕ) : EReal :=
  p0 * (if i0 = BitVec.ofNat 32 e then 1 else 0) + p1 * (if i1 = BitVec.ofNat 32 e then 1 else 0)

/-- The value of a first hidden half, read at a row and a column. -/
theorem first_apply (x0 : Vec Ideal S1024x1024 .bf16) (x1 : Vec Ideal S1024x2048 .bf16) (x2 : Vec Ideal S2048x1024 .bf16)
    (x3 : Vec Ideal S1024x64 .bf16) (x4 : Vec Ideal S64x1024 .bf16) (x5 : Vec Ideal S1024x2 .f32) (x6 : Vec Ideal S1024x2 .i32)
    (r : Fin 1024) (n : Fin 1024) :
    k0_pay3 x0 x1 x2 (k0_pay5 (k0_pay1 x0) x3) k0_pay6 (k0_pay7 (F := Ideal)) (k0_pay8 (col0 x5) (col0 x6)) (col1 x5) (col1 x6) x4 (ix2 r n)
      = (∑ k : Fin 2048, Arith.gelu2 c₀ (∑ l : Fin 1024, x0 (ix2 r l) * x1 (ix2 l k)) * x2 (ix2 k n))
        + ∑ q : Fin 64, Arith.gelu2 c₀ (∑ l : Fin 1024, x0 (ix2 r l) * x3 (ix2 l q))
            * weight (x5 (ix2 r 0)) (x5 (ix2 r 1)) (x6 (ix2 r 0)) (x6 (ix2 r 1)) (q.val / 8) * x4 (ix2 q n) := by
  unfold k0_pay3 k0_pay7 k0_pay8
  simp only [shapeCast_self]
  refine congrArg₂ (· + ·) (part_apply x0 x1 x2 r n) ((mm (φ₁ := .bf16) (φ₂ := .bf16) _ rfl _ x4 r n).trans
    (Finset.sum_congr rfl fun q _ => congrArg (· * x4 (ix2 q n)) ?_))
  rw [← lanes_apply x0 x3 r q]
  refine congrArg (k0_pay5 (k0_pay1 x0) x3 (ix2 r q) * ·) ?_
  have e0 := spread0 x5 r q
  have e1 := spread1 x5 r q
  have d0 := (indicator_apply (broadcastTo S1024x64 (col0 x6) broadcasts_S1024x1_S1024x64) k0_pay6 (ix2 r q))
  have d1 := (indicator_apply (broadcastTo S1024x64 (col1 x6) broadcasts_S1024x1_S1024x64) k0_pay6 (ix2 r q))
  rw [spread0, expert_apply] at d0
  rw [spread1, expert_apply] at d1
  refine (congrArg₂ (· + ·) (congrArg₂ (· + ·) (Ideal.ofBits_zero_f32) (congrArg₂ (· * ·) e0 d0)) (congrArg₂ (· * ·) e1 d1)).trans ?_
  rw [zero_add]

/-- The value of a second hidden half, read at a row and a column. -/
theorem second_apply (x0 : Vec Ideal S1024x1024 .bf16) (x1 : Vec Ideal S1024x2048 .bf16) (x2 : Vec Ideal S2048x1024 .bf16)
    (xo : Vec Ideal S1024x1024 .f32) (r : Fin 1024) (n : Fin 1024) :
    k0_pay4 x0 x1 x2 xo (ix2 r n) = xo (ix2 r n)
      + ∑ k : Fin 2048, Arith.gelu2 c₀ (∑ l : Fin 1024, x0 (ix2 r l) * x1 (ix2 l k)) * x2 (ix2 k n) := by
  unfold k0_pay4
  simp only [shapeCast_self]
  exact congrArg (xo (ix2 r n) + ·) (part_apply x0 x1 x2 r n)

end Cert.KernelIdeal.Block

end
-- ==== Proof.Entry.lean ====
/- The arrays the launch finds, read at an index: each is the host lines' rearrangement of one argument. -/
module

public import proofs.«01_k».proof.Proof.Block
public import Idealize.ShloMosaic.Lib.StableHlo.ReadAt
public import Idealize.ShloMosaic.Lib.Claim

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ)

/-- The factor one half, the word both programs carry. -/
abbrev h₀ : EReal := Ideal.ofBits .f32 0x3F000000#32

/-- The tokens, as the argument holds them. -/
abbrev aX (c : Dev nD) : FVec Ideal S2x4096x1024 .f32 := m ((c : Thread nD τ).loc main_arg0)
/-- The routing probabilities, as the argument holds them. -/
abbrev aP (c : Dev nD) : FVec Ideal S8192x2 .f32 := m ((c : Thread nD τ).loc main_arg2)
/-- The expert numbers, as the argument holds them. -/
abbrev aI (c : Dev nD) : IVec S8192x2 32 := m ((c : Thread nD τ).loc main_arg3)
/-- The first weight, as the argument holds it. -/
abbrev aW1 (c : Dev nD) : FVec Ideal S1024x4096 .f32 := m ((c : Thread nD τ).loc main_arg4)
/-- The second weight, as the argument holds it. -/
abbrev aW2 (c : Dev nD) : FVec Ideal S4096x1024 .f32 := m ((c : Thread nD τ).loc main_arg6)
/-- The adapters' first weights, as the argument holds them. -/
abbrev aD (c : Dev nD) : FVec Ideal S8x1024x8 .f32 := m ((c : Thread nD τ).loc main_arg8)
/-- The adapters' second weights, as the argument holds them. -/
abbrev aU (c : Dev nD) : FVec Ideal S8x8x1024 .f32 := m ((c : Thread nD τ).loc main_arg9)

/-- The tokens: the first argument with its two leading axes joined. -/
theorem entry_x (c : Dev nD) (t : Fin 8192) (l : Fin 1024) :
    V m c main_call0_v1 (ix2 t l) = aX m c (ix3 ⟨t.val / 4096, by omega⟩ ⟨t.val % 4096, by omega⟩ l) := by
  unfold V V0
  after_reads_at

/-- The first weight. -/
theorem entry_w1 (c : Dev nD) (l : Fin 1024) (k : Fin 4096) :
    V m c main_call0_v9 (ix2 l k) = aW1 m c (ix2 l k) := by
  unfold V V0
  after_reads_at

/-- The second weight, halved. -/
theorem entry_w2 (c : Dev nD) (k : Fin 4096) (n : Fin 1024) :
    V m c main_call0_v12 (ix2 k n) = aW2 m c (ix2 k n) * h₀ := by
  unfold V V0
  after_reads_at

/-- The adapters' first weights, the experts side by side along the lanes. -/
theorem entry_wd (c : Dev nD) (l : Fin 1024) (q : Fin 64) :
    V m c main_call0_v4 (ix2 l q) = aD m c (ix3 ⟨q.val / 8, by omega⟩ l ⟨q.val % 8, by omega⟩) := by
  unfold V V0
  after_reads_at

/-- The adapters' second weights, the experts one under another, halved. -/
theorem entry_wu (c : Dev nD) (q : Fin 64) (n : Fin 1024) :
    V m c main_call0_v8 (ix2 q n)
      = aU m c (ix3 ⟨q.val / 8, by omega⟩ ⟨q.val % 8, by omega⟩ n) * h₀ := by
  unfold V V0
  after_reads_at

/-- The routing probabilities are the argument itself. -/
theorem entry_p (c : Dev nD) (t : Fin 8192) (k : Fin 2) : V m c main_arg2 (ix2 t k) = aP m c (ix2 t k) := by
  unfold V V0
  after_reads_at

/-- The expert numbers are the argument itself. -/
theorem entry_i (c : Dev nD) (t : Fin 8192) (k : Fin 2) : V m c main_arg3 (ix2 t k) = aI m c (ix2 t k) := by
  unfold V V0
  after_reads_at

end Cert.KernelIdeal.Block

end
-- ==== Proof.Array.lean ====
/- The kernel's run, read: the launch's result array holds, in the row of each token, the two halves of the token's
   feed-forward sum and its adapters' sum; the last host line joins the rows back to the argument's shape. -/
module

public import proofs.«01_k».proof.Proof.Entry
public import Idealize.ShloMosaic.Lib.Pipeline.ValueKit.Geometry
public import Idealize.ShloMosaic.Lib.Pipeline.ValueKit.Point

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

/-! ## What a row holds -/

/-- A token's hidden product: its features with one column of the first weight. -/
def hid (X : FVec Ideal S2x4096x1024 .f32) (W1 : FVec Ideal S1024x4096 .f32) (t : Fin 8192) (k : Fin 4096) : EReal :=
  ∑ l : Fin 1024, X (ix3 ⟨t.val / 4096, by omega⟩ ⟨t.val % 4096, by omega⟩ l) * W1 (ix2 l k)

/-- A token's adapter product: its features with one lane of one expert's first weight. -/
def ad (X : FVec Ideal S2x4096x1024 .f32) (D : FVec Ideal S8x1024x8 .f32) (t : Fin 8192) (e r : Fin 8) : EReal :=
  ∑ l : Fin 1024, X (ix3 ⟨t.val / 4096, by omega⟩ ⟨t.val % 4096, by omega⟩ l) * D (ix3 e l r)

/-- A token's routing weight for an expert. -/
def wt (P : FVec Ideal S8192x2 .f32) (I : IVec S8192x2 32) (t : Fin 8192) (e : Fin 8) : EReal :=
  weight (P (ix2 t 0)) (P (ix2 t 1)) (I (ix2 t 0)) (I (ix2 t 1)) e.val

/-- The first half of a token's feed-forward sum and its adapters' sum, in one column of the output. -/
def half0 (X : FVec Ideal S2x4096x1024 .f32) (P : FVec Ideal S8192x2 .f32) (I : IVec S8192x2 32) (W1 : FVec Ideal S1024x4096 .f32)
    (W2 : FVec Ideal S4096x1024 .f32) (D : FVec Ideal S8x1024x8 .f32) (U : FVec Ideal S8x8x1024 .f32) (t : Fin 8192) (n : Fin 1024) : EReal :=
  (∑ k : Fin 2048, Arith.gelu2 c₀ (hid X W1 t ⟨k.val, by omega⟩) * (W2 (ix2 ⟨k.val, by omega⟩ n) * h₀))
    + ∑ q : Fin 64, Arith.gelu2 c₀ (ad X D t ⟨q.val / 8, by omega⟩ ⟨q.val % 8, by omega⟩) * wt P I t ⟨q.val / 8, by omega⟩
        * (U (ix3 ⟨q.val / 8, by omega⟩ ⟨q.val % 8, by omega⟩ n) * h₀)

/-- The second half of a token's feed-forward sum, in one column of the output. -/
def half1 (X : FVec Ideal S2x4096x1024 .f32) (W1 : FVec Ideal S1024x4096 .f32) (W2 : FVec Ideal S4096x1024 .f32)
    (t : Fin 8192) (n : Fin 1024) : EReal :=
  ∑ k : Fin 2048, Arith.gelu2 c₀ (hid X W1 t ⟨2048 + k.val, by omega⟩) * (W2 (ix2 ⟨2048 + k.val, by omega⟩ n) * h₀)

variable (m : (ℓ : Loc nD τ sig) → Buf (Elt Ideal) ℓ) (ρ : Dev nD → PrngReg)

/-- The launch's result array: each row the sum of its two halves. -/
abbrev G (c : Dev nD) : FVec Ideal S8192x1024 .f32 := fun i =>
  half0 (aX m c) (aP m c) (aI m c) (aW1 m c) (aW2 m c) (aD m c) (aU m c) (i 0) (i 1) + half1 (aX m c) (aW1 m c) (aW2 m c) (i 0) (i 1)

/-! ## The windows' blocks at an index -/

/-- Where each window's block stands at a grid point: the token block is the point's half, the hidden half its parity. -/
theorem index_at : ∀ t : Fin grid0.N,
    (win0_0.index t 0 = t.val / 2 ∧ win0_0.index t 1 = 0) ∧ (win0_1.index t 0 = 0 ∧ win0_1.index t 1 = t.val % 2)
      ∧ (win0_2.index t 0 = t.val % 2 ∧ win0_2.index t 1 = 0) ∧ (win0_3.index t 0 = 0 ∧ win0_3.index t 1 = 0)
      ∧ (win0_4.index t 0 = 0 ∧ win0_4.index t 1 = 0) ∧ (win0_5.index t 0 = t.val / 2 ∧ win0_5.index t 1 = 0)
      ∧ (win0_6.index t 0 = t.val / 2 ∧ win0_6.index t 1 = 0) ∧ (win0_7.index t 0 = t.val / 2 ∧ win0_7.index t 1 = 0) := by
  decide +kernel

/-- The row of the whole array that row `r` of a point's token block is. -/
def row (t : Fin cfg0.N) (r : Fin 1024) : Fin 8192 :=
  ⟨t.val / 2 * 1024 + r.val, by have := t.isLt; have hN : cfg0.N = 16 := N_0; omega⟩

/-- The tokens of a point. -/
abbrev b0 (c : Dev nD) (t : Fin cfg0.N) : Vec Ideal S1024x1024 .bf16 := iblk m c 0 t
/-- A half of the first weight. -/
abbrev b1 (c : Dev nD) (t : Fin cfg0.N) : Vec Ideal S1024x2048 .bf16 := iblk m c 1 t
/-- A half of the second weight. -/
abbrev b2 (c : Dev nD) (t : Fin cfg0.N) : Vec Ideal S2048x1024 .bf16 := iblk m c 2 t
/-- The adapters' first weights. -/
abbrev b3 (c : Dev nD) (t : Fin cfg0.N) : Vec Ideal S1024x64 .bf16 := iblk m c 3 t
/-- The adapters' second weights. -/
abbrev b4 (c : Dev nD) (t : Fin cfg0.N) : Vec Ideal S64x1024 .bf16 := iblk m c 4 t
/-- The routing probabilities of a point's tokens. -/
abbrev b5 (c : Dev nD) (t : Fin cfg0.N) : Vec Ideal S1024x2 .f32 := iblk m c 5 t
/-- The expert numbers of a point's tokens. -/
abbrev b6 (c : Dev nD) (t : Fin cfg0.N) : Vec Ideal S1024x2 .i32 := iblk m c 6 t

/-- The tokens' block, at an index. -/
theorem blk_x (c : Dev nD) (t : Fin cfg0.N) (r : Fin 1024) (l : Fin 1024) :
    b0 m c t (ix2 r l) = V m c main_call0_v1 (ix2 (row t r) l) := by
  obtain ⟨h0, h1⟩ := (index_at t).1
  refine (View.read_apply _ _).trans (congrArg (V m c main_call0_v1) (funext fun a => Fin.ext ?_))
  match a with
  | ⟨0, _⟩ => show win0_0.index t 0 * 1024 + 1 * r.val = t.val / 2 * 1024 + r.val; rw [h0]; omega
  | ⟨1, _⟩ => show win0_0.index t 1 * 1024 + 1 * l.val = l.val; rw [h1]; omega

/-- The first weight's half, at an index. -/
theorem blk_w1 (c : Dev nD) (t : Fin cfg0.N) (l : Fin 1024) (k : Fin 2048) :
    b1 m c t (ix2 l k)
      = V m c main_call0_v9 (ix2 l ⟨t.val % 2 * 2048 + k.val, by omega⟩) := by
  obtain ⟨h0, h1⟩ := (index_at t).2.1
  refine (View.read_apply _ _).trans (congrArg (V m c main_call0_v9) (funext fun a => Fin.ext ?_))
  match a with
  | ⟨0, _⟩ => show win0_1.index t 0 * 1024 + 1 * l.val = l.val; rw [h0]; omega
  | ⟨1, _⟩ => show win0_1.index t 1 * 2048 + 1 * k.val = t.val % 2 * 2048 + k.val; rw [h1]; omega

/-- The second weight's half, at an index. -/
theorem blk_w2 (c : Dev nD) (t : Fin cfg0.N) (k : Fin 2048) (n : Fin 1024) :
    b2 m c t (ix2 k n)
      = V m c main_call0_v12 (ix2 ⟨t.val % 2 * 2048 + k.val, by omega⟩ n) := by
  obtain ⟨h0, h1⟩ := (index_at t).2.2.1
  refine (View.read_apply _ _).trans (congrArg (V m c main_call0_v12) (funext fun a => Fin.ext ?_))
  match a with
  | ⟨0, _⟩ => show win0_2.index t 0 * 2048 + 1 * k.val = t.val % 2 * 2048 + k.val; rw [h0]; omega
  | ⟨1, _⟩ => show win0_2.index t 1 * 1024 + 1 * n.val = n.val; rw [h1]; omega

/-- The adapters' first weights, at an index. -/
theorem blk_wd (c : Dev nD) (t : Fin cfg0.N) (l : Fin 1024) (q : Fin 64) :
    b3 m c t (ix2 l q) = V m c main_call0_v4 (ix2 l q) := by
  obtain ⟨h0, h1⟩ := (index_at t).2.2.2.1
  refine (View.read_apply _ _).trans (congrArg (V m c main_call0_v4) (funext fun a => Fin.ext ?_))
  match a with
  | ⟨0, _⟩ => show win0_3.index t 0 * 1024 + 1 * l.val = l.val; rw [h0]; omega
  | ⟨1, _⟩ => show win0_3.index t 1 * 64 + 1 * q.val = q.val; rw [h1]; omega

/-- The adapters' second weights, at an index. -/
theorem blk_wu (c : Dev nD) (t : Fin cfg0.N) (q : Fin 64) (n : Fin 1024) :
    b4 m c t (ix2 q n) = V m c main_call0_v8 (ix2 q n) := by
  obtain ⟨h0, h1⟩ := (index_at t).2.2.2.2.1
  refine (View.read_apply _ _).trans (congrArg (V m c main_call0_v8) (funext fun a => Fin.ext ?_))
  match a with
  | ⟨0, _⟩ => show win0_4.index t 0 * 64 + 1 * q.val = q.val; rw [h0]; omega
  | ⟨1, _⟩ => show win0_4.index t 1 * 1024 + 1 * n.val = n.val; rw [h1]; omega

/-- The routing weights, at an index. -/
theorem blk_p (c : Dev nD) (t : Fin cfg0.N) (r : Fin 1024) (k : Fin 2) :
    b5 m c t (ix2 r k) = V m c main_arg2 (ix2 (row t r) k) := by
  obtain ⟨h0, h1⟩ := (index_at t).2.2.2.2.2.1
  refine (View.read_apply _ _).trans (congrArg (V m c main_arg2) (funext fun a => Fin.ext ?_))
  match a with
  | ⟨0, _⟩ => show win0_5.index t 0 * 1024 + 1 * r.val = t.val / 2 * 1024 + r.val; rw [h0]; omega
  | ⟨1, _⟩ => show win0_5.index t 1 * 2 + 1 * k.val = k.val; rw [h1]; omega

/-- The routing indices, at an index. -/
theorem blk_i (c : Dev nD) (t : Fin cfg0.N) (r : Fin 1024) (k : Fin 2) :
    b6 m c t (ix2 r k) = V m c main_arg3 (ix2 (row t r) k) := by
  obtain ⟨h0, h1⟩ := (index_at t).2.2.2.2.2.2.1
  refine (View.read_apply _ _).trans (congrArg (V m c main_arg3) (funext fun a => Fin.ext ?_))
  match a with
  | ⟨0, _⟩ => show win0_6.index t 0 * 1024 + 1 * r.val = t.val / 2 * 1024 + r.val; rw [h0]; omega
  | ⟨1, _⟩ => show win0_6.index t 1 * 2 + 1 * k.val = k.val; rw [h1]; omega

/-! ## The output's block after each point -/

/-- The feed-forward term of a point's hidden half, over the arguments. -/
theorem ff_at (c : Dev nD) (t : Fin cfg0.N) (r n : Fin 1024) (k : Fin 2048) (k' : Fin 4096) (hk : k'.val = t.val % 2 * 2048 + k.val) :
    Arith.gelu2 c₀ (∑ l : Fin 1024, b0 m c t (ix2 r l) * b1 m c t (ix2 l k))
        * b2 m c t (ix2 k n)
      = Arith.gelu2 c₀ (hid (aX m c) (aW1 m c) (row t r) k') * (aW2 m c (ix2 k' n) * h₀) := by
  have hk' : (⟨t.val % 2 * 2048 + k.val, by omega⟩ : Fin 4096) = k' := Fin.ext hk.symm
  unfold hid
  rw [blk_w2, entry_w2, hk']
  refine congrArg (fun s => Arith.gelu2 c₀ s * _) (Finset.sum_congr rfl fun l _ => ?_)
  rw [blk_x, blk_w1, entry_x, entry_w1, hk']

/-- After a first hidden half the block holds each row's first half. -/
theorem after_first (c : Dev nD) (t : Fin cfg0.N) (ht : t.val % 2 = 0) (r n : Fin 1024) :
    (outsAt0 m c t.val t.isLt : Vec Ideal S1024x1024 .f32) (ix2 r n)
      = half0 (aX m c) (aP m c) (aI m c) (aW1 m c) (aW2 m c) (aD m c) (aU m c) (row t r) n := by
  refine (congrFun ((outsAt0_A m c t ht (by omega)).trans
    (out_A c _ _ _ _ _ _ _ _ _ _ _ _ _ _ _ _ _ _ _ (b0 m c t) (b1 m c t) (b2 m c t) (b3 m c t) (b4 m c t) (b5 m c t) (b6 m c t))) (ix2 r n)).trans
    ((first_apply (b0 m c t) (b1 m c t) (b2 m c t) (b3 m c t) (b4 m c t) (b5 m c t) (b6 m c t) r n).trans ?_)
  unfold half0
  refine congrArg₂ (· + ·) (Finset.sum_congr rfl fun k _ => ff_at m c t r n k _ (by show k.val = _; omega)) (Finset.sum_congr rfl fun q _ => ?_)
  rw [blk_wu, entry_wu, blk_p, blk_p, blk_i, blk_i, entry_p, entry_p, entry_i, entry_i]
  unfold ad wt
  refine congrArg (fun s => Arith.gelu2 c₀ s * _ * _) (Finset.sum_congr rfl fun l _ => ?_)
  rw [blk_x, blk_wd, entry_x, entry_wd]

/-- After a second hidden half it holds each row's two halves. -/
theorem after_second (c : Dev nD) (t : Fin cfg0.N) (ht : t.val % 2 = 1) (r n : Fin 1024) :
    (outsAt0 m c t.val t.isLt : Vec Ideal S1024x1024 .f32) (ix2 r n) = G m c (ix2 (row t r) n) := by
  have hlt : t.val - 1 < cfg0.N := Nat.lt_of_le_of_lt (Nat.sub_le _ _) t.isLt
  have hrow : row ⟨t.val - 1, hlt⟩ r = row t r := Fin.ext (by
    show (t.val - 1) / 2 * 1024 + r.val = t.val / 2 * 1024 + r.val
    have : (t.val - 1) / 2 = t.val / 2 := by omega
    rw [this])
  have hprev := after_first m c ⟨t.val - 1, hlt⟩ (by show (t.val - 1) % 2 = 0; omega) r n
  rw [hrow] at hprev
  refine (congrFun ((outsAt0_B m c t (by omega) (by omega)).trans
    (out_B c _ _ _ _ _ _ _ _ _ _ _ _ _ _ _ _ _ _ _ (b0 m c t) (b1 m c t) (b2 m c t) (b3 m c t) (b4 m c t) (b5 m c t) (b6 m c t)
      (outsAt0 m c (t.val - 1) hlt))) (ix2 r n)).trans
    ((second_apply (b0 m c t) (b1 m c t) (b2 m c t) (outsAt0 m c (t.val - 1) hlt) r n).trans ?_)
  exact congrArg₂ (· + ·) hprev (Finset.sum_congr rfl fun k _ => ff_at m c t r n k _ (by show 2048 + k.val = _; omega))

/-- So the launch's result array ends holding every row's two halves. -/
theorem final (c : Dev nD) : (dats m 0 c).arrAt 7 cfg0.N = G m c := by
  refine (dats m 0 c).arrAt_eq_of_covers 7 (G m c) (by decide +kernel) fun t hf y => ?_
  blk_simp
  rw [after0_7]
  have hmod : t.val % 2 = 1 := (flush0_7 t).mp hf
  obtain ⟨h0, h1⟩ := (index_at t).2.2.2.2.2.2.2
  obtain ⟨r, n, rfl⟩ : ∃ (r n : Fin 1024), (y : S1024x1024.Idx) = ix2 r n := ⟨y 0, y 1, funext fun a => by fin_cases a <;> rfl⟩
  refine (after_second m c t hmod r n).trans (congrArg (G m c) (funext fun a => Fin.ext ?_))
  match a with
  | ⟨0, _⟩ => show t.val / 2 * 1024 + r.val = win0_7.index t 0 * 1024 + 1 * r.val; rw [h0]; omega
  | ⟨1, _⟩ => show n.val = win0_7.index t 1 * 1024 + 1 * n.val; rw [h1]; omega

end Cert.KernelIdeal.Block

end
-- ==== Proof.Final.lean ====
/- What the whole program ends holding: its result's row (batch, position) is that token's two halves. -/
module

public import proofs.«01_k».proof.Proof.Array
public import Idealize.ShloMosaic.Lib.Claim
public import Idealize.ShloMosaic.Lib.StableHlo.ReadAt

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The token at a batch and a position. -/
def tok (b : Fin 2) (s : Fin 4096) : Fin 8192 := ⟨b.val * 4096 + s.val, by omega⟩

/-- The program's result, over its arguments. -/
abbrev out (c : Dev nD) : FVec Ideal S2x4096x1024 .f32 := fun i =>
  half0 (aX m c) (aP m c) (aI m c) (aW1 m c) (aW2 m c) (aD m c) (aU m c) (tok (i 0) (i 1)) (i 2)
    + half1 (aX m c) (aW1 m c) (aW2 m c) (tok (i 0) (i 1)) (i 2)

/-- The program's result at a batch, a position and a column: the joined rows of the launch's result array. -/
theorem tail_apply (c : Dev nD) (b : Fin 2) (s : Fin 4096) (n : Fin 1024) :
    (Pipeline.afterTail₀ cfgs (dats m) 0 (V0 m) [hostOps1] c main_v0 : FVec Ideal S2x4096x1024 .f32) (ix3 b s n) = G m c (ix2 (tok b s) n) := by
  have h := Pipeline.withArrays_arr spec0 (by decide) c (V0 m c) (fun w => (dats m 0 c).arrAt w cfg0.N) 7
  rw [final] at h
  unfold Pipeline.afterTail₀
  after_reads_at
  exact congrFun h (ix2 (tok b s) n)

/-- The program ends with its result holding `out`, its arguments as they were. -/
theorem run : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  run_from Gen.run_main m ρ & Gen.unchanged m ρ
  funext i
  obtain ⟨b, s, n, rfl⟩ : ∃ (b : Fin 2) (s : Fin 4096) (n : Fin 1024), i = ix3 b s n := ⟨i 0, i 1, i 2, funext fun a => by fin_cases a <;> rfl⟩
  exact tail_apply m c b s n

end Cert.KernelIdeal.Block

end
-- ==== Proof.RefAt.lean ====
/- The reference at an index: what each token's row of the feed-forward sum, of each expert's adapter and of the result holds. -/
module

public import proofs.«01_k».proof.Proof.Final
public import proofs.«01_k».proof.Proof.Gen.ReferenceIdeal.Read

@[expose] public section

set_option maxRecDepth 16384

noncomputable section

namespace Cert.ReferenceIdeal.Block

open Cert.ReferenceIdeal Cert.ReferenceIdeal.Gen Cert.ReferenceIdeal.Read Idealize.ShloMosaic Idealize.ShloMosaic.TcCoe
open Cert.KernelIdeal.Block (hid ad wt h₀ c₀ weight)

variable (x0 : FVec Ideal S2x4096x1024 .f32) (x2 : FVec Ideal S8192x2 .f32) (x3 : IVec S8192x2 32) (x4 : FVec Ideal S1024x4096 .f32)
  (x5 : FVec Ideal S4096 .f32) (x6 : FVec Ideal S4096x1024 .f32) (x7 : FVec Ideal S1024 .f32)
  (x8 : FVec Ideal S8x1024x8 .f32) (x9 : FVec Ideal S8x8x1024 .f32)

/-- The reference's activation of one number: half of it times the complementary error function of its scaled negative. -/
def act (a : EReal) : EReal := h₀ * a * Ideal.erfc (-a * c₀)

/-- An index of three axes is the one its coordinates name. -/
theorem at3 {a b c : ℕ} (j : (⟨3, ![a, b, c]⟩ : Shape).Idx) (p : Fin a) (q : Fin b) (r : Fin c)
    (h0 : (j 0).val = p.val) (h1 : (j 1).val = q.val) (h2 : (j 2).val = r.val) : j = ix3 p q r :=
  funext fun x => Fin.ext (match x with | ⟨0, _⟩ => h0 | ⟨1, _⟩ => h1 | ⟨2, _⟩ => h2)

/-- An index of two axes is the one its coordinates name. -/
theorem at2 {a b : ℕ} (j : (⟨2, ![a, b]⟩ : Shape).Idx) (p : Fin a) (q : Fin b)
    (h0 : (j 0).val = p.val) (h1 : (j 1).val = q.val) : j = ix2 p q :=
  funext fun x => Fin.ext (match x with | ⟨0, _⟩ => h0 | ⟨1, _⟩ => h1)

/-- The tokens with their two leading axes joined. -/
theorem tokens_apply (t : Fin 8192) (l : Fin 1024) (j : S8192x1024.Idx) (h0 : (j 0).val = t.val) (h1 : (j 1).val = l.val) :
    val_main_v15 (F := Ideal) x0 j = x0 (ix3 ⟨t.val / 4096, by omega⟩ ⟨t.val % 4096, by omega⟩ l) := by
  refine (val_main_v15_apply (F := Ideal) x0 j).trans (congrArg x0 (at3 _ _ _ _ ?_ ?_ ?_))
  · show ((j 0).val * 1024 + (j 1).val) / 4194304 = t.val / 4096; omega
  · show ((j 0).val * 1024 + (j 1).val) / 1024 % 4096 = t.val % 4096; omega
  · show ((j 0).val * 1024 + (j 1).val) % 1024 = l.val; omega

/-- One where two numbers agree, zero elsewhere. -/
theorem agree_apply (x y : BitVec 32) :
    (FloatOps.uitofp .f32 (IntOp.cmpi .eq x y) : Ideal .f32) = if x = y then (1 : EReal) else 0 := by
  show (((BitVec.ofBool (x == y)).toNat : ℝ) : EReal) = _
  by_cases h : x = y
  · rw [if_pos h, beq_iff_eq.mpr h, show (BitVec.ofBool true).toNat = 1 from rfl]; norm_num
  · rw [if_neg h, beq_eq_false_iff_ne.mpr h, show (BitVec.ofBool false).toNat = 0 from rfl]; norm_num

/-- The two masked probabilities of a token, summed from zero, are its routing weight. -/
theorem route_apply (t : Fin 8192) (e : Fin 8) (f : Fin 2 → S8192x2.Idx) (hf : ∀ k, f k = ix2 t k) (z : EReal) (hz : z = Ideal.ofBits .f32 0x00000000#32) :
    z + ∑ k : Fin 2, x2 (f k) * (FloatOps.uitofp .f32 (IntOp.cmpi .eq (x3 (f k)) (BitVec.ofNat 32 e.val)) : Ideal .f32) = wt x2 x3 t e := by
  rw [hz, Ideal.ofBits_zero_f32, zero_add, Fin.sum_univ_two, hf, hf, agree_apply, agree_apply]
  rfl

/-- One expert's part of a token's row: the adapter's sum, scaled by one and by the token's routing weight. -/
def term (t : Fin 8192) (n : Fin 1024) (e : Fin 8) : EReal :=
  (∑ r : Fin 8, act (ad x0 x8 t e r) * x9 (ix3 e r n)) * 1 * wt x2 x3 t e

/-- The first expert's part of a token's row. -/
theorem expert_zero (t : Fin 8192) (n : Fin 1024) (j : S8192x1024.Idx) (h0 : (j 0).val = t.val) (h1 : (j 1).val = n.val) :
    val_main_v39 (F := Ideal) x0 x2 x3 x8 x9 j = term x0 x2 x3 x8 x9 t n 0 := by
  have hd : ∀ (r : Fin 8) (i : S8192x8.Idx), (i 0).val = t.val → (i 1).val = r.val → val_main_v19 (F := Ideal) x0 x8 i = ad x0 x8 t 0 r :=
    fun r i g0 g1 => by
      refine (val_main_v19_apply x0 x8 i).trans (Finset.sum_congr rfl fun l _ => congrArg₂ (· * ·) (tokens_apply x0 t l _ g0 rfl) ?_)
      rw [val_main_v18_apply, val_main_v17_apply]
      refine congrArg x8 (at3 _ _ _ _ rfl ?_ ?_)
      · show (l.val * 8 + (i 1).val) / 8 % 1024 = l.val; omega
      · show (l.val * 8 + (i 1).val) % 8 = r.val; omega
  have ha : ∀ (r : Fin 8) (i : S8192x8.Idx), (i 0).val = t.val → (i 1).val = r.val → val_main_v26 (F := Ideal) x0 x8 i = act (ad x0 x8 t 0 r) :=
    fun r i g0 g1 => by
      rw [val_main_v26_apply, val_main_v25_apply, val_main_v24_apply, val_main_v23_apply, val_main_v22_apply, val_main_v21_apply, val_main_v20_apply, hd r i g0 g1]; rfl
  have hu : ∀ (r : Fin 8) (i : S8x1024.Idx), (i 0).val = r.val → (i 1).val = n.val → val_main_v28 (F := Ideal) x9 i = x9 (ix3 0 r n) :=
    fun r i g0 g1 => by
      rw [val_main_v28_apply, val_main_v27_apply]
      refine congrArg x9 (at3 _ _ _ _ rfl ?_ ?_)
      · show ((i 0).val * 1024 + (i 1).val) / 1024 % 8 = r.val; omega
      · show ((i 0).val * 1024 + (i 1).val) % 1024 = n.val; omega
  have hw : val_main_v38 (F := Ideal) x2 x3 j = wt x2 x3 t 0 :=
    (val_main_v38_apply (F := Ideal) x2 x3 j).trans ((val_main_v37_apply (F := Ideal) x2 x3 _).trans ((val_main_v36_apply x2 x3 _).trans
      (route_apply x2 x3 t 0 _ (fun k => at2 _ _ _ h0 rfl) _ rfl)))
  have hs : val_main_v29 (F := Ideal) x0 x8 x9 j = ∑ r : Fin 8, act (ad x0 x8 t 0 r) * x9 (ix3 0 r n) :=
    (val_main_v29_apply x0 x8 x9 j).trans (Finset.sum_congr rfl fun r _ => congrArg₂ (· * ·) (ha r _ h0 rfl) (hu r _ rfl h1))
  have ho : val_main_v30 (F := Ideal) j = 1 := (val_main_v30_apply j).trans Ideal.ofBits_one_f32
  exact congrArg₂ (· * ·) (congrArg₂ (· * ·) hs ho) hw

/-- The second expert's part of a token's row. -/
theorem expert_one (t : Fin 8192) (n : Fin 1024) (j : S8192x1024.Idx) (h0 : (j 0).val = t.val) (h1 : (j 1).val = n.val) :
    val_main_v63 (F := Ideal) x0 x2 x3 x8 x9 j = term x0 x2 x3 x8 x9 t n 1 := by
  have hd : ∀ (r : Fin 8) (i : S8192x8.Idx), (i 0).val = t.val → (i 1).val = r.val → val_main_v43 (F := Ideal) x0 x8 i = ad x0 x8 t 1 r :=
    fun r i g0 g1 => by
      refine (val_main_v43_apply x0 x8 i).trans (Finset.sum_congr rfl fun l _ => congrArg₂ (· * ·) (tokens_apply x0 t l _ g0 rfl) ?_)
      rw [val_main_v42_apply, val_main_v41_apply]
      refine congrArg x8 (at3 _ _ _ _ rfl ?_ ?_)
      · show (l.val * 8 + (i 1).val) / 8 % 1024 = l.val; omega
      · show (l.val * 8 + (i 1).val) % 8 = r.val; omega
  have ha : ∀ (r : Fin 8) (i : S8192x8.Idx), (i 0).val = t.val → (i 1).val = r.val → val_main_v50 (F := Ideal) x0 x8 i = act (ad x0 x8 t 1 r) :=
    fun r i g0 g1 => by
      rw [val_main_v50_apply, val_main_v49_apply, val_main_v48_apply, val_main_v47_apply, val_main_v46_apply, val_main_v45_apply, val_main_v44_apply, hd r i g0 g1]; rfl
  have hu : ∀ (r : Fin 8) (i : S8x1024.Idx), (i 0).val = r.val → (i 1).val = n.val → val_main_v52 (F := Ideal) x9 i = x9 (ix3 1 r n) :=
    fun r i g0 g1 => by
      rw [val_main_v52_apply, val_main_v51_apply]
      refine congrArg x9 (at3 _ _ _ _ rfl ?_ ?_)
      · show ((i 0).val * 1024 + (i 1).val) / 1024 % 8 = r.val; omega
      · show ((i 0).val * 1024 + (i 1).val) % 1024 = n.val; omega
  have hw : val_main_v62 (F := Ideal) x2 x3 j = wt x2 x3 t 1 :=
    (val_main_v62_apply (F := Ideal) x2 x3 j).trans ((val_main_v61_apply (F := Ideal) x2 x3 _).trans ((val_main_v60_apply x2 x3 _).trans
      (route_apply x2 x3 t 1 _ (fun k => at2 _ _ _ h0 rfl) _ rfl)))
  have hs : val_main_v53 (F := Ideal) x0 x8 x9 j = ∑ r : Fin 8, act (ad x0 x8 t 1 r) * x9 (ix3 1 r n) :=
    (val_main_v53_apply x0 x8 x9 j).trans (Finset.sum_congr rfl fun r _ => congrArg₂ (· * ·) (ha r _ h0 rfl) (hu r _ rfl h1))
  have ho : val_main_v54 (F := Ideal) j = 1 := (val_main_v54_apply j).trans Ideal.ofBits_one_f32
  exact congrArg₂ (· * ·) (congrArg₂ (· * ·) hs ho) hw

/-- The third expert's part of a token's row. -/
theorem expert_two (t : Fin 8192) (n : Fin 1024) (j : S8192x1024.Idx) (h0 : (j 0).val = t.val) (h1 : (j 1).val = n.val) :
    val_main_v87 (F := Ideal) x0 x2 x3 x8 x9 j = term x0 x2 x3 x8 x9 t n 2 := by
  have hd : ∀ (r : Fin 8) (i : S8192x8.Idx), (i 0).val = t.val → (i 1).val = r.val → val_main_v67 (F := Ideal) x0 x8 i = ad x0 x8 t 2 r :=
    fun r i g0 g1 => by
      refine (val_main_v67_apply x0 x8 i).trans (Finset.sum_congr rfl fun l _ => congrArg₂ (· * ·) (tokens_apply x0 t l _ g0 rfl) ?_)
      rw [val_main_v66_apply, val_main_v65_apply]
      refine congrArg x8 (at3 _ _ _ _ rfl ?_ ?_)
      · show (l.val * 8 + (i 1).val) / 8 % 1024 = l.val; omega
      · show (l.val * 8 + (i 1).val) % 8 = r.val; omega
  have ha : ∀ (r : Fin 8) (i : S8192x8.Idx), (i 0).val = t.val → (i 1).val = r.val → val_main_v74 (F := Ideal) x0 x8 i = act (ad x0 x8 t 2 r) :=
    fun r i g0 g1 => by
      rw [val_main_v74_apply, val_main_v73_apply, val_main_v72_apply, val_main_v71_apply, val_main_v70_apply, val_main_v69_apply, val_main_v68_apply, hd r i g0 g1]; rfl
  have hu : ∀ (r : Fin 8) (i : S8x1024.Idx), (i 0).val = r.val → (i 1).val = n.val → val_main_v76 (F := Ideal) x9 i = x9 (ix3 2 r n) :=
    fun r i g0 g1 => by
      rw [val_main_v76_apply, val_main_v75_apply]
      refine congrArg x9 (at3 _ _ _ _ rfl ?_ ?_)
      · show ((i 0).val * 1024 + (i 1).val) / 1024 % 8 = r.val; omega
      · show ((i 0).val * 1024 + (i 1).val) % 1024 = n.val; omega
  have hw : val_main_v86 (F := Ideal) x2 x3 j = wt x2 x3 t 2 :=
    (val_main_v86_apply (F := Ideal) x2 x3 j).trans ((val_main_v85_apply (F := Ideal) x2 x3 _).trans ((val_main_v84_apply x2 x3 _).trans
      (route_apply x2 x3 t 2 _ (fun k => at2 _ _ _ h0 rfl) _ rfl)))
  have hs : val_main_v77 (F := Ideal) x0 x8 x9 j = ∑ r : Fin 8, act (ad x0 x8 t 2 r) * x9 (ix3 2 r n) :=
    (val_main_v77_apply x0 x8 x9 j).trans (Finset.sum_congr rfl fun r _ => congrArg₂ (· * ·) (ha r _ h0 rfl) (hu r _ rfl h1))
  have ho : val_main_v78 (F := Ideal) j = 1 := (val_main_v78_apply j).trans Ideal.ofBits_one_f32
  exact congrArg₂ (· * ·) (congrArg₂ (· * ·) hs ho) hw

/-- The fourth expert's part of a token's row. -/
theorem expert_three (t : Fin 8192) (n : Fin 1024) (j : S8192x1024.Idx) (h0 : (j 0).val = t.val) (h1 : (j 1).val = n.val) :
    val_main_v111 (F := Ideal) x0 x2 x3 x8 x9 j = term x0 x2 x3 x8 x9 t n 3 := by
  have hd : ∀ (r : Fin 8) (i : S8192x8.Idx), (i 0).val = t.val → (i 1).val = r.val → val_main_v91 (F := Ideal) x0 x8 i = ad x0 x8 t 3 r :=
    fun r i g0 g1 => by
      refine (val_main_v91_apply x0 x8 i).trans (Finset.sum_congr rfl fun l _ => congrArg₂ (· * ·) (tokens_apply x0 t l _ g0 rfl) ?_)
      rw [val_main_v90_apply, val_main_v89_apply]
      refine congrArg x8 (at3 _ _ _ _ rfl ?_ ?_)
      · show (l.val * 8 + (i 1).val) / 8 % 1024 = l.val; omega
      · show (l.val * 8 + (i 1).val) % 8 = r.val; omega
  have ha : ∀ (r : Fin 8) (i : S8192x8.Idx), (i 0).val = t.val → (i 1).val = r.val → val_main_v98 (F := Ideal) x0 x8 i = act (ad x0 x8 t 3 r) :=
    fun r i g0 g1 => by
      rw [val_main_v98_apply, val_main_v97_apply, val_main_v96_apply, val_main_v95_apply, val_main_v94_apply, val_main_v93_apply, val_main_v92_apply, hd r i g0 g1]; rfl
  have hu : ∀ (r : Fin 8) (i : S8x1024.Idx), (i 0).val = r.val → (i 1).val = n.val → val_main_v100 (F := Ideal) x9 i = x9 (ix3 3 r n) :=
    fun r i g0 g1 => by
      rw [val_main_v100_apply, val_main_v99_apply]
      refine congrArg x9 (at3 _ _ _ _ rfl ?_ ?_)
      · show ((i 0).val * 1024 + (i 1).val) / 1024 % 8 = r.val; omega
      · show ((i 0).val * 1024 + (i 1).val) % 1024 = n.val; omega
  have hw : val_main_v110 (F := Ideal) x2 x3 j = wt x2 x3 t 3 :=
    (val_main_v110_apply (F := Ideal) x2 x3 j).trans ((val_main_v109_apply (F := Ideal) x2 x3 _).trans ((val_main_v108_apply x2 x3 _).trans
      (route_apply x2 x3 t 3 _ (fun k => at2 _ _ _ h0 rfl) _ rfl)))
  have hs : val_main_v101 (F := Ideal) x0 x8 x9 j = ∑ r : Fin 8, act (ad x0 x8 t 3 r) * x9 (ix3 3 r n) :=
    (val_main_v101_apply x0 x8 x9 j).trans (Finset.sum_congr rfl fun r _ => congrArg₂ (· * ·) (ha r _ h0 rfl) (hu r _ rfl h1))
  have ho : val_main_v102 (F := Ideal) j = 1 := (val_main_v102_apply j).trans Ideal.ofBits_one_f32
  exact congrArg₂ (· * ·) (congrArg₂ (· * ·) hs ho) hw

/-- The fifth expert's part of a token's row. -/
theorem expert_four (t : Fin 8192) (n : Fin 1024) (j : S8192x1024.Idx) (h0 : (j 0).val = t.val) (h1 : (j 1).val = n.val) :
    val_main_v135 (F := Ideal) x0 x2 x3 x8 x9 j = term x0 x2 x3 x8 x9 t n 4 := by
  have hd : ∀ (r : Fin 8) (i : S8192x8.Idx), (i 0).val = t.val → (i 1).val = r.val → val_main_v115 (F := Ideal) x0 x8 i = ad x0 x8 t 4 r :=
    fun r i g0 g1 => by
      refine (val_main_v115_apply x0 x8 i).trans (Finset.sum_congr rfl fun l _ => congrArg₂ (· * ·) (tokens_apply x0 t l _ g0 rfl) ?_)
      rw [val_main_v114_apply, val_main_v113_apply]
      refine congrArg x8 (at3 _ _ _ _ rfl ?_ ?_)
      · show (l.val * 8 + (i 1).val) / 8 % 1024 = l.val; omega
      · show (l.val * 8 + (i 1).val) % 8 = r.val; omega
  have ha : ∀ (r : Fin 8) (i : S8192x8.Idx), (i 0).val = t.val → (i 1).val = r.val → val_main_v122 (F := Ideal) x0 x8 i = act (ad x0 x8 t 4 r) :=
    fun r i g0 g1 => by
      rw [val_main_v122_apply, val_main_v121_apply, val_main_v120_apply, val_main_v119_apply, val_main_v118_apply, val_main_v117_apply, val_main_v116_apply, hd r i g0 g1]; rfl
  have hu : ∀ (r : Fin 8) (i : S8x1024.Idx), (i 0).val = r.val → (i 1).val = n.val → val_main_v124 (F := Ideal) x9 i = x9 (ix3 4 r n) :=
    fun r i g0 g1 => by
      rw [val_main_v124_apply, val_main_v123_apply]
      refine congrArg x9 (at3 _ _ _ _ rfl ?_ ?_)
      · show ((i 0).val * 1024 + (i 1).val) / 1024 % 8 = r.val; omega
      · show ((i 0).val * 1024 + (i 1).val) % 1024 = n.val; omega
  have hw : val_main_v134 (F := Ideal) x2 x3 j = wt x2 x3 t 4 :=
    (val_main_v134_apply (F := Ideal) x2 x3 j).trans ((val_main_v133_apply (F := Ideal) x2 x3 _).trans ((val_main_v132_apply x2 x3 _).trans
      (route_apply x2 x3 t 4 _ (fun k => at2 _ _ _ h0 rfl) _ rfl)))
  have hs : val_main_v125 (F := Ideal) x0 x8 x9 j = ∑ r : Fin 8, act (ad x0 x8 t 4 r) * x9 (ix3 4 r n) :=
    (val_main_v125_apply x0 x8 x9 j).trans (Finset.sum_congr rfl fun r _ => congrArg₂ (· * ·) (ha r _ h0 rfl) (hu r _ rfl h1))
  have ho : val_main_v126 (F := Ideal) j = 1 := (val_main_v126_apply j).trans Ideal.ofBits_one_f32
  exact congrArg₂ (· * ·) (congrArg₂ (· * ·) hs ho) hw

/-- The sixth expert's part of a token's row. -/
theorem expert_five (t : Fin 8192) (n : Fin 1024) (j : S8192x1024.Idx) (h0 : (j 0).val = t.val) (h1 : (j 1).val = n.val) :
    val_main_v159 (F := Ideal) x0 x2 x3 x8 x9 j = term x0 x2 x3 x8 x9 t n 5 := by
  have hd : ∀ (r : Fin 8) (i : S8192x8.Idx), (i 0).val = t.val → (i 1).val = r.val → val_main_v139 (F := Ideal) x0 x8 i = ad x0 x8 t 5 r :=
    fun r i g0 g1 => by
      refine (val_main_v139_apply x0 x8 i).trans (Finset.sum_congr rfl fun l _ => congrArg₂ (· * ·) (tokens_apply x0 t l _ g0 rfl) ?_)
      rw [val_main_v138_apply, val_main_v137_apply]
      refine congrArg x8 (at3 _ _ _ _ rfl ?_ ?_)
      · show (l.val * 8 + (i 1).val) / 8 % 1024 = l.val; omega
      · show (l.val * 8 + (i 1).val) % 8 = r.val; omega
  have ha : ∀ (r : Fin 8) (i : S8192x8.Idx), (i 0).val = t.val → (i 1).val = r.val → val_main_v146 (F := Ideal) x0 x8 i = act (ad x0 x8 t 5 r) :=
    fun r i g0 g1 => by
      rw [val_main_v146_apply, val_main_v145_apply, val_main_v144_apply, val_main_v143_apply, val_main_v142_apply, val_main_v141_apply, val_main_v140_apply, hd r i g0 g1]; rfl
  have hu : ∀ (r : Fin 8) (i : S8x1024.Idx), (i 0).val = r.val → (i 1).val = n.val → val_main_v148 (F := Ideal) x9 i = x9 (ix3 5 r n) :=
    fun r i g0 g1 => by
      rw [val_main_v148_apply, val_main_v147_apply]
      refine congrArg x9 (at3 _ _ _ _ rfl ?_ ?_)
      · show ((i 0).val * 1024 + (i 1).val) / 1024 % 8 = r.val; omega
      · show ((i 0).val * 1024 + (i 1).val) % 1024 = n.val; omega
  have hw : val_main_v158 (F := Ideal) x2 x3 j = wt x2 x3 t 5 :=
    (val_main_v158_apply (F := Ideal) x2 x3 j).trans ((val_main_v157_apply (F := Ideal) x2 x3 _).trans ((val_main_v156_apply x2 x3 _).trans
      (route_apply x2 x3 t 5 _ (fun k => at2 _ _ _ h0 rfl) _ rfl)))
  have hs : val_main_v149 (F := Ideal) x0 x8 x9 j = ∑ r : Fin 8, act (ad x0 x8 t 5 r) * x9 (ix3 5 r n) :=
    (val_main_v149_apply x0 x8 x9 j).trans (Finset.sum_congr rfl fun r _ => congrArg₂ (· * ·) (ha r _ h0 rfl) (hu r _ rfl h1))
  have ho : val_main_v150 (F := Ideal) j = 1 := (val_main_v150_apply j).trans Ideal.ofBits_one_f32
  exact congrArg₂ (· * ·) (congrArg₂ (· * ·) hs ho) hw

/-- The seventh expert's part of a token's row. -/
theorem expert_six (t : Fin 8192) (n : Fin 1024) (j : S8192x1024.Idx) (h0 : (j 0).val = t.val) (h1 : (j 1).val = n.val) :
    val_main_v183 (F := Ideal) x0 x2 x3 x8 x9 j = term x0 x2 x3 x8 x9 t n 6 := by
  have hd : ∀ (r : Fin 8) (i : S8192x8.Idx), (i 0).val = t.val → (i 1).val = r.val → val_main_v163 (F := Ideal) x0 x8 i = ad x0 x8 t 6 r :=
    fun r i g0 g1 => by
      refine (val_main_v163_apply x0 x8 i).trans (Finset.sum_congr rfl fun l _ => congrArg₂ (· * ·) (tokens_apply x0 t l _ g0 rfl) ?_)
      rw [val_main_v162_apply, val_main_v161_apply]
      refine congrArg x8 (at3 _ _ _ _ rfl ?_ ?_)
      · show (l.val * 8 + (i 1).val) / 8 % 1024 = l.val; omega
      · show (l.val * 8 + (i 1).val) % 8 = r.val; omega
  have ha : ∀ (r : Fin 8) (i : S8192x8.Idx), (i 0).val = t.val → (i 1).val = r.val → val_main_v170 (F := Ideal) x0 x8 i = act (ad x0 x8 t 6 r) :=
    fun r i g0 g1 => by
      rw [val_main_v170_apply, val_main_v169_apply, val_main_v168_apply, val_main_v167_apply, val_main_v166_apply, val_main_v165_apply, val_main_v164_apply, hd r i g0 g1]; rfl
  have hu : ∀ (r : Fin 8) (i : S8x1024.Idx), (i 0).val = r.val → (i 1).val = n.val → val_main_v172 (F := Ideal) x9 i = x9 (ix3 6 r n) :=
    fun r i g0 g1 => by
      rw [val_main_v172_apply, val_main_v171_apply]
      refine congrArg x9 (at3 _ _ _ _ rfl ?_ ?_)
      · show ((i 0).val * 1024 + (i 1).val) / 1024 % 8 = r.val; omega
      · show ((i 0).val * 1024 + (i 1).val) % 1024 = n.val; omega
  have hw : val_main_v182 (F := Ideal) x2 x3 j = wt x2 x3 t 6 :=
    (val_main_v182_apply (F := Ideal) x2 x3 j).trans ((val_main_v181_apply (F := Ideal) x2 x3 _).trans ((val_main_v180_apply x2 x3 _).trans
      (route_apply x2 x3 t 6 _ (fun k => at2 _ _ _ h0 rfl) _ rfl)))
  have hs : val_main_v173 (F := Ideal) x0 x8 x9 j = ∑ r : Fin 8, act (ad x0 x8 t 6 r) * x9 (ix3 6 r n) :=
    (val_main_v173_apply x0 x8 x9 j).trans (Finset.sum_congr rfl fun r _ => congrArg₂ (· * ·) (ha r _ h0 rfl) (hu r _ rfl h1))
  have ho : val_main_v174 (F := Ideal) j = 1 := (val_main_v174_apply j).trans Ideal.ofBits_one_f32
  exact congrArg₂ (· * ·) (congrArg₂ (· * ·) hs ho) hw

/-- The eighth expert's part of a token's row. -/
theorem expert_seven (t : Fin 8192) (n : Fin 1024) (j : S8192x1024.Idx) (h0 : (j 0).val = t.val) (h1 : (j 1).val = n.val) :
    val_main_v207 (F := Ideal) x0 x2 x3 x8 x9 j = term x0 x2 x3 x8 x9 t n 7 := by
  have hd : ∀ (r : Fin 8) (i : S8192x8.Idx), (i 0).val = t.val → (i 1).val = r.val → val_main_v187 (F := Ideal) x0 x8 i = ad x0 x8 t 7 r :=
    fun r i g0 g1 => by
      refine (val_main_v187_apply x0 x8 i).trans (Finset.sum_congr rfl fun l _ => congrArg₂ (· * ·) (tokens_apply x0 t l _ g0 rfl) ?_)
      rw [val_main_v186_apply, val_main_v185_apply]
      refine congrArg x8 (at3 _ _ _ _ rfl ?_ ?_)
      · show (l.val * 8 + (i 1).val) / 8 % 1024 = l.val; omega
      · show (l.val * 8 + (i 1).val) % 8 = r.val; omega
  have ha : ∀ (r : Fin 8) (i : S8192x8.Idx), (i 0).val = t.val → (i 1).val = r.val → val_main_v194 (F := Ideal) x0 x8 i = act (ad x0 x8 t 7 r) :=
    fun r i g0 g1 => by
      rw [val_main_v194_apply, val_main_v193_apply, val_main_v192_apply, val_main_v191_apply, val_main_v190_apply, val_main_v189_apply, val_main_v188_apply, hd r i g0 g1]; rfl
  have hu : ∀ (r : Fin 8) (i : S8x1024.Idx), (i 0).val = r.val → (i 1).val = n.val → val_main_v196 (F := Ideal) x9 i = x9 (ix3 7 r n) :=
    fun r i g0 g1 => by
      rw [val_main_v196_apply, val_main_v195_apply]
      refine congrArg x9 (at3 _ _ _ _ rfl ?_ ?_)
      · show ((i 0).val * 1024 + (i 1).val) / 1024 % 8 = r.val; omega
      · show ((i 0).val * 1024 + (i 1).val) % 1024 = n.val; omega
  have hw : val_main_v206 (F := Ideal) x2 x3 j = wt x2 x3 t 7 :=
    (val_main_v206_apply (F := Ideal) x2 x3 j).trans ((val_main_v205_apply (F := Ideal) x2 x3 _).trans ((val_main_v204_apply x2 x3 _).trans
      (route_apply x2 x3 t 7 _ (fun k => at2 _ _ _ h0 rfl) _ rfl)))
  have hs : val_main_v197 (F := Ideal) x0 x8 x9 j = ∑ r : Fin 8, act (ad x0 x8 t 7 r) * x9 (ix3 7 r n) :=
    (val_main_v197_apply x0 x8 x9 j).trans (Finset.sum_congr rfl fun r _ => congrArg₂ (· * ·) (ha r _ h0 rfl) (hu r _ rfl h1))
  have ho : val_main_v198 (F := Ideal) j = 1 := (val_main_v198_apply j).trans Ideal.ofBits_one_f32
  exact congrArg₂ (· * ·) (congrArg₂ (· * ·) hs ho) hw

/-- The experts' parts of a token's row, summed. -/
theorem experts_apply (t : Fin 8192) (n : Fin 1024) (j : S8192x1024.Idx) (h0 : (j 0).val = t.val) (h1 : (j 1).val = n.val) :
    val_main_v208 (F := Ideal) x0 x2 x3 x8 x9 j = ∑ e : Fin 8, term x0 x2 x3 x8 x9 t n e := by
  rw [val_main_v208_apply, val_main_v184_apply, val_main_v160_apply, val_main_v136_apply, val_main_v112_apply, val_main_v88_apply, val_main_v64_apply, val_main_v40_apply, val_main_v16_apply,
    expert_zero x0 x2 x3 x8 x9 t n j h0 h1,
    expert_one x0 x2 x3 x8 x9 t n j h0 h1,
    expert_two x0 x2 x3 x8 x9 t n j h0 h1,
    expert_three x0 x2 x3 x8 x9 t n j h0 h1,
    expert_four x0 x2 x3 x8 x9 t n j h0 h1,
    expert_five x0 x2 x3 x8 x9 t n j h0 h1,
    expert_six x0 x2 x3 x8 x9 t n j h0 h1,
    expert_seven x0 x2 x3 x8 x9 t n j h0 h1, ← Cert.Arith.chain_eight (term x0 x2 x3 x8 x9 t n)]
  refine congrArg (· + _ + _ + _ + _ + _ + _ + _ + _) ?_
  exact Ideal.ofBits_zero_f32

/-- The feed-forward sum of a token's row, where the two biases are zero. -/
theorem ff_apply (h5 : ∀ k, x5 k = 0) (h7 : ∀ k, x7 k = 0) (b : Fin 2) (s : Fin 4096) (n : Fin 1024) :
    val_main_v14 (F := Ideal) x0 x4 x5 x6 x7 (ix3 b s n)
      = ∑ k : Fin 4096, act (hid x0 x4 (Cert.KernelIdeal.Block.tok b s) k) * x6 (ix2 k n) := by
  have hv : ∀ (k : Fin 4096) (i : S2x4096x4096.Idx), (i 0).val = b.val → (i 1).val = s.val → (i 2).val = k.val →
      val_main_v3 (F := Ideal) x0 x4 x5 i = hid x0 x4 (Cert.KernelIdeal.Block.tok b s) k := fun k i g0 g1 g2 => by
    rw [val_main_v3_apply, val_main_v2_apply, val_main_v1_apply, h5, val_main_v0_apply]
    refine (add_zero _).trans (Finset.sum_congr rfl fun l _ => congrArg₂ (· * ·) (congrArg x0 (at3 _ _ _ _ ?_ ?_ rfl)) (congrArg x4 (at2 _ _ _ rfl g2)))
    · show (i 0).val = (b.val * 4096 + s.val) / 4096; omega
    · show (i 1).val = (b.val * 4096 + s.val) % 4096; omega
  rw [val_main_v14_apply, val_main_v13_apply, val_main_v12_apply, h7, val_main_v11_apply]
  refine (add_zero _).trans (Finset.sum_congr rfl fun k _ => congrArg₂ (· * ·) ?_ (congrArg x6 (at2 _ _ _ rfl rfl)))
  rw [val_main_v10_apply, val_main_v9_apply, val_main_v8_apply, val_main_v7_apply, val_main_v6_apply, val_main_v5_apply, val_main_v4_apply, hv k _ rfl rfl rfl]
  rfl

/-- The reference's result at a batch, a position and a column, where the two biases are zero. -/
theorem result_apply (h5 : ∀ k, x5 k = 0) (h7 : ∀ k, x7 k = 0) (b : Fin 2) (s : Fin 4096) (n : Fin 1024) :
    val_main_v210 (F := Ideal) x0 x2 x3 x4 x5 x6 x7 x8 x9 (ix3 b s n)
      = (∑ k : Fin 4096, act (hid x0 x4 (Cert.KernelIdeal.Block.tok b s) k) * x6 (ix2 k n))
        + ∑ e : Fin 8, term x0 x2 x3 x8 x9 (Cert.KernelIdeal.Block.tok b s) n e := by
  rw [val_main_v210_apply, ff_apply x0 x4 x5 x6 x7 h5 h7, val_main_v209_apply, experts_apply x0 x2 x3 x8 x9 (Cert.KernelIdeal.Block.tok b s) n]
  · rfl
  · show ((b.val * 4096 + s.val) * 1024 + n.val) / 1024 = b.val * 4096 + s.val; omega
  · show ((b.val * 4096 + s.val) * 1024 + n.val) % 1024 = n.val; omega

end Cert.ReferenceIdeal.Block

end
-- ==== Proof.Equation.lean ====
/- The two programs' results are equal where the precondition holds: what it says of the arguments, then row by row. -/
module

public import proofs.«01_k».proof.Proof.RefAt
public import proofs.«01_k».proof.Defs

@[expose] public section

set_option maxRecDepth 16384

noncomputable section

namespace Cert.Proof

open Idealize.ShloMosaic Idealize.ShloMosaic.TcCoe Idealize.SL.Sem
open Cert.KernelIdeal.Block (aX aP aI aW1 aW2 aD aU hid ad wt h₀ c₀ out tok)

/-- The shapes the precondition's comparisons broadcast zero and infinity to. -/
theorem preFacts : Cert.Pre_zero_biases_and_weights.Facts where
  bcast_S_S4096 := by decide
  bcast_S_S1024 := by decide
  bcast_S_S8192x2 := by decide

/-- A comparison that came out one holds. -/
theorem of_one {p : Prop} [Decidable p] (h : BitVec.ofBool (decide p) = 1#1) : p := by
  by_contra hp
  rw [decide_eq_false hp] at h
  exact absurd h (by decide)

/-- The single-precision infinity is the largest extended real. -/
theorem infinity_eq : Ideal.ofBits .f32 0x7F800000#32 = ⊤ := by simp [Ideal.ofBits, Ideal.ieee]

section

variable [Cert.Pre_zero_biases_and_weights.Facts]
variable (m : (ℓ : Loc Cert.KernelIdeal.nD Cert.KernelIdeal.τ Cert.KernelIdeal.sig) → Buf (Elt Ideal) ℓ)
variable (hpre : Cert.Pre_KernelIdeal_zero_biases_and_weights m) (c : Dev Cert.KernelIdeal.nD)

/-- The first bias. -/
abbrev aB1 : FVec Ideal Cert.KernelIdeal.S4096 .f32 := m ((c : Thread Cert.KernelIdeal.nD Cert.KernelIdeal.τ).loc Cert.KernelIdeal.main_arg5)
/-- The second bias. -/
abbrev aB2 : FVec Ideal Cert.KernelIdeal.S1024 .f32 := m ((c : Thread Cert.KernelIdeal.nD Cert.KernelIdeal.τ).loc Cert.KernelIdeal.main_arg7)

include hpre

/-- The first bias is zero. -/
theorem bias1 (k : Cert.KernelIdeal.S4096.Idx) : aB1 m c k = 0 := by
  have h : aB1 m c k = Ideal.ofBits .f32 0x00000000#32 := of_one (congrFun (hpre c).1 k)
  rw [h, Ideal.ofBits_zero_f32]

/-- The second bias is zero. -/
theorem bias2 (k : Cert.KernelIdeal.S1024.Idx) : aB2 m c k = 0 := by
  have h : aB2 m c k = Ideal.ofBits .f32 0x00000000#32 := of_one (congrFun (hpre c).2.1 k)
  rw [h, Ideal.ofBits_zero_f32]

/-- The routing probabilities are not negative. -/
theorem prob_nonneg (j : Cert.KernelIdeal.S8192x2.Idx) : 0 ≤ aP m c j := by
  have h : Ideal.ofBits .f32 0x00000000#32 ≤ aP m c j := of_one (congrFun (hpre c).2.2.1 j)
  rwa [Ideal.ofBits_zero_f32] at h

/-- The routing probabilities are finite. -/
theorem prob_lt_top (j : Cert.KernelIdeal.S8192x2.Idx) : aP m c j < ⊤ := by
  have h : aP m c j < Ideal.ofBits .f32 0x7F800000#32 := of_one (congrFun (hpre c).2.2.2 j)
  rwa [infinity_eq] at h

/-- The reference's result is the kernel's. -/
theorem value_eq :
    Cert.ReferenceIdeal.Read.val_main_v210 (F := Ideal) (aX m c) (aP m c) (aI m c) (aW1 m c) (aB1 m c) (aW2 m c) (aB2 m c) (aD m c) (aU m c)
      = out m c := by
  funext i
  obtain ⟨b, s, n, rfl⟩ : ∃ (b : Fin 2) (s : Fin 4096) (n : Fin 1024), i = ix3 b s n := ⟨i 0, i 1, i 2, funext fun a => by fin_cases a <;> rfl⟩
  refine (Cert.ReferenceIdeal.Block.result_apply (aX m c) (aP m c) (aI m c) (aW1 m c) (aB1 m c) (aW2 m c) (aB2 m c) (aD m c) (aU m c)
    (bias1 m hpre c) (bias2 m hpre c) b s n).trans ?_
  have hw := fun e : Fin 8 => Cert.Arith.weight_bounds (aP m c (ix2 (tok b s) 0)) (aP m c (ix2 (tok b s) 1))
    (aI m c (ix2 (tok b s) 0) = BitVec.ofNat 32 e.val) (aI m c (ix2 (tok b s) 1) = BitVec.ofNat 32 e.val)
    (prob_nonneg m hpre c _) (prob_lt_top m hpre c _) (prob_nonneg m hpre c _) (prob_lt_top m hpre c _)
  exact Cert.Arith.row_eq h₀ c₀ (fun k => hid (aX m c) (aW1 m c) (tok b s) k) (fun k => aW2 m c (ix2 k n))
    (fun e r => ad (aX m c) (aD m c) (tok b s) e r) (fun e r => aU m c (ix3 e r n)) (fun e => wt (aP m c) (aI m c) (tok b s) e)
    (fun e => (hw e).1) (fun e => (hw e).2)

end

end Cert.Proof

end
-- ==== Proof.lean ====
module

public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The reference leaves its arguments as they were and has no counters. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- Where the precondition holds, the kernel's result and the reference's agree. -/
theorem algebraic : Cert.algebraic_KernelIdeal_ReferenceIdeal_pre_zero_biases_and_weights (hKernelIdeal := Cert.KernelIdeal.Gen.facts)
    (hReferenceIdeal := Cert.ReferenceIdeal.Gen.facts) (hPre_zero_biases_and_weights := preFacts) := by
  haveI := preFacts
  intro m g m' g' hpre hagree
  refine ⟨fun c => Cert.KernelIdeal.Block.out m c, Cert.KernelIdeal.Block.run m g,
    (θ_run Cert.ReferenceIdeal.defs _ _).mono (fun r h c => ⟨(h c).1.trans ?_, (h c).2⟩) (Cert.ReferenceIdeal.Value.run m' g')⟩
  obtain ⟨a0, -, a2, a3, a4, a5, a6, a7, a8, a9⟩ := hagree c
  have e : Cert.ReferenceIdeal.Read.val_main_v210 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      = Cert.KernelIdeal.Block.out m c := by
    rw [a0, a2, a3, a4, a5, a6, a7, a8, a9]
    exact value_eq m hpre c
  exact (Cert.ReferenceIdeal.Read.val_main_v210_eq (StableHlo.launchContents m' c)).trans e

/-- Everything claimed: the frames, that idealizing changed nothing else, and the equality of the two results. -/
theorem claim : Cert.Claim := ⟨Cert.Kernel.Gen.facts, Cert.KernelIdeal.Gen.facts, Cert.ReferenceIdeal.Gen.facts, preFacts,
  fun m g _ => Cert.Kernel.Gen.frame m g, fun m g _ => Cert.KernelIdeal.Gen.frame m g, fun m g _ => Cert.KernelIdeal.Gen.frame m g,
  frame_reference, fun m g _ => frame_reference m g trivial, trivial, algebraic⟩

end Cert.Proof

end
